-- ==== Defs.lean ====
def Pre_Kernel (m : (ℓ : Loc Cert.Kernel.nD Cert.Kernel.τ Cert.Kernel.sig) → Buf (Elt Bits) ℓ) : Prop :=
  True

def Pre_Pointwise (m : (ℓ : Loc Cert.Pointwise.nD Cert.Pointwise.τ Cert.Pointwise.sig) → Buf (Elt Bits) ℓ) : Prop :=
  True

def Pre_KernelLog (m : (ℓ : Loc Cert.KernelLog.nD Cert.KernelLog.τ Cert.KernelLog.sig) → Buf (Elt Bits) ℓ) : Prop :=
  True

def Pre_KernelLogIdeal (m : (ℓ : Loc Cert.KernelLogIdeal.nD Cert.KernelLogIdeal.τ Cert.KernelLogIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Pointwise [hPointwise : Cert.Pointwise.Facts] : Prop :=
  ∀ (m : (ℓ : Loc Cert.Pointwise.nD Cert.Pointwise.τ Cert.Pointwise.sig) → Buf (Elt Bits) ℓ) (g : Dev Cert.Pointwise.nD → PrngReg), Pre_Pointwise m →
    θ_run (Cert.Pointwise.defs (F := Bits)) (onTc (τ := Cert.Pointwise.τ) (Cert.Pointwise.main (F := Bits))) ⟨m, fun _ => 0, g⟩ (fun r => (∀ c : Dev Cert.Pointwise.nD,
      r.2.mem ((c.tc : Thread Cert.Pointwise.nD Cert.Pointwise.τ).loc Cert.Pointwise.main_arg0) = m ((c.tc : Thread Cert.Pointwise.nD Cert.Pointwise.τ).loc Cert.Pointwise.main_arg0))
      ∧ r.2.sem = fun _ => 0)

def quiescent_KernelLog [hKernelLog : Cert.KernelLog.Facts] : Prop :=
  ∀ (m : (ℓ : Loc Cert.KernelLog.nD Cert.KernelLog.τ Cert.KernelLog.sig) → Buf (Elt Bits) ℓ) (g : Dev Cert.KernelLog.nD → PrngReg), Pre_KernelLog m →
    θ_run (Cert.KernelLog.defs (F := Bits)) (onTc (τ := Cert.KernelLog.τ) (Cert.KernelLog.main (F := Bits))) ⟨m, fun _ => 0, g⟩ (fun r => (∀ c : Dev Cert.KernelLog.nD,
      r.2.mem ((c.tc : Thread Cert.KernelLog.nD Cert.KernelLog.τ).loc Cert.KernelLog.main_arg0) = m ((c.tc : Thread Cert.KernelLog.nD Cert.KernelLog.τ).loc Cert.KernelLog.main_arg0))
      ∧ r.2.sem = fun _ => 0)

def quiescent_KernelLogIdeal [hKernelLogIdeal : Cert.KernelLogIdeal.Facts] : Prop :=
  ∀ (m : (ℓ : Loc Cert.KernelLogIdeal.nD Cert.KernelLogIdeal.τ Cert.KernelLogIdeal.sig) → Buf (Elt Ideal) ℓ) (g : Dev Cert.KernelLogIdeal.nD → PrngReg), Pre_KernelLogIdeal m →
    θ_run (Cert.KernelLogIdeal.defs (F := Ideal)) (onTc (τ := Cert.KernelLogIdeal.τ) (Cert.KernelLogIdeal.main (F := Ideal))) ⟨m, fun _ => 0, g⟩ (fun r => (∀ c : Dev Cert.KernelLogIdeal.nD,
      r.2.mem ((c.tc : Thread Cert.KernelLogIdeal.nD Cert.KernelLogIdeal.τ).loc Cert.KernelLogIdeal.main_arg0) = m ((c.tc : Thread Cert.KernelLogIdeal.nD Cert.KernelLogIdeal.τ).loc Cert.KernelLogIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def bitexact_Kernel_Pointwise [hKernel : Cert.Kernel.Facts] [hPointwise : Cert.Pointwise.Facts] : Prop :=
  ∀ (m : (ℓ : Loc Cert.Kernel.nD Cert.Kernel.τ Cert.Kernel.sig) → Buf (Elt Bits) ℓ) (g : Dev Cert.Kernel.nD → PrngReg)
    (m' : (ℓ : Loc Cert.Pointwise.nD Cert.Pointwise.τ Cert.Pointwise.sig) → Buf (Elt Bits) ℓ) (g' : Dev Cert.Pointwise.nD → PrngReg), Pre_Kernel m →
    (∀ c : Dev Cert.Kernel.nD,
      m' ((c.tc : Thread Cert.Pointwise.nD Cert.Pointwise.τ).loc Cert.Pointwise.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Pointwise.defs (F := Bits)) (onTc (τ := Cert.Pointwise.τ) (Cert.Pointwise.main (F := Bits))) ⟨m', fun _ => 0, g'⟩ (fun r => ∀ c : Dev Cert.Pointwise.nD,
          r.2.mem ((c.tc : Thread Cert.Pointwise.nD Cert.Pointwise.τ).loc Cert.Pointwise.main_v12) = v0 c
          ∧ r.2.mem ((c.tc : Thread Cert.Pointwise.nD Cert.Pointwise.τ).loc Cert.Pointwise.main_arg0) = m' ((c.tc : Thread Cert.Pointwise.nD Cert.Pointwise.τ).loc Cert.Pointwise.main_arg0))

def preserves_KernelLog_KernelLogIdeal : Prop :=
  IdealRules.named_const.Statement Cert.KernelLogIdeal.κ "log_c" .f32 0x40135D8E#32 ((Real.log 10 : ℝ) : EReal)

def algebraic_KernelLogIdeal_ReferenceIdeal [hKernelLogIdeal : Cert.KernelLogIdeal.Facts] [hReferenceIdeal : Cert.ReferenceIdeal.Facts] : Prop :=
  ∀ (m : (ℓ : Loc Cert.KernelLogIdeal.nD Cert.KernelLogIdeal.τ Cert.KernelLogIdeal.sig) → Buf (Elt Ideal) ℓ) (g : Dev Cert.KernelLogIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelLogIdeal m →
    (∀ c : Dev Cert.KernelLogIdeal.nD,
      m' ((c.tc : Thread Cert.ReferenceIdeal.nD Cert.ReferenceIdeal.τ).loc Cert.ReferenceIdeal.main_arg0) = m ((c.tc : Thread Cert.KernelLogIdeal.nD Cert.KernelLogIdeal.τ).loc Cert.KernelLogIdeal.main_arg0)) →
    ∃ (v0 : (c : Dev Cert.KernelLogIdeal.nD) → Buf (Elt Ideal) ((c.tc : Thread Cert.KernelLogIdeal.nD Cert.KernelLogIdeal.τ).loc Cert.KernelLogIdeal.main_v0)),
      θ_run (Cert.KernelLogIdeal.defs (F := Ideal)) (onTc (τ := Cert.KernelLogIdeal.τ) (Cert.KernelLogIdeal.main (F := Ideal))) ⟨m, fun _ => 0, g⟩ (fun r => ∀ c : Dev Cert.KernelLogIdeal.nD,
          r.2.mem ((c.tc : Thread Cert.KernelLogIdeal.nD Cert.KernelLogIdeal.τ).loc Cert.KernelLogIdeal.main_v0) = v0 c
          ∧ r.2.mem ((c.tc : Thread Cert.KernelLogIdeal.nD Cert.KernelLogIdeal.τ).loc Cert.KernelLogIdeal.main_arg0) = m ((c.tc : Thread Cert.KernelLogIdeal.nD Cert.KernelLogIdeal.τ).loc Cert.KernelLogIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hPointwise : Cert.Pointwise.Facts) (hKernelLog : Cert.KernelLog.Facts) (hKernelLogIdeal : Cert.KernelLogIdeal.Facts) (hReferenceIdeal : Cert.ReferenceIdeal.Facts),
    quiescent_Kernel (hKernel := hKernel)
    ∧ quiescent_Pointwise (hPointwise := hPointwise)
    ∧ quiescent_KernelLog (hKernelLog := hKernelLog)
    ∧ quiescent_KernelLogIdeal (hKernelLogIdeal := hKernelLogIdeal)
    ∧ quiescent_ReferenceIdeal (hReferenceIdeal := hReferenceIdeal)
    ∧ bitexact_Kernel_Pointwise (hKernel := hKernel) (hPointwise := hPointwise)
    ∧ preserves_KernelLog_KernelLogIdeal
    ∧ algebraic_KernelLogIdeal_ReferenceIdeal (hKernelLogIdeal := hKernelLogIdeal) (hReferenceIdeal := hReferenceIdeal)
-- ==== Kernel.lean ====
abbrev S8192x4096 : Shape := ⟨2, ![8192, 4096]⟩
abbrev S4x512x4096 : Shape := ⟨3, ![4, 512, 4096]⟩
abbrev S3x512x4096 : Shape := ⟨3, ![3, 512, 4096]⟩
abbrev S4 : Shape := ⟨1, ![4]⟩
abbrev S3 : Shape := ⟨1, ![3]⟩
abbrev S1 : Shape := ⟨1, ![1]⟩
abbrev S_ : Shape := ⟨0, ![]⟩
abbrev S1x512x4096 : Shape := ⟨3, ![1, 512, 4096]⟩
abbrev S512x4096 : Shape := ⟨2, ![512, 4096]⟩

abbrev nBuf : Space → Nat
  | .hbm => 2
  | .vmem => 2
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .local _ .vmem, ⟨0, _⟩ => ⟨S4x512x4096, .f32⟩
  | .local _ .vmem, ⟨1, _⟩ => ⟨S3x512x4096, .f32⟩
  | _, _ => ⟨S8192x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_scratch0 : Ref sig .tc := ⟨.vmem, 0, rfl⟩
abbrev cc0_scratch1 : Ref sig .tc := ⟨.vmem, 1, rfl⟩

abbrev nD : Nat := 1
abbrev τ : Topo := Topo.v7x

variable {F : FTy → Type} [BitOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (c0_i32_23 : BitVec 32) : Fin 1 → Nat :=
  let c4_i32_24 : BitVec 32 := 4#32
  let v52 : BitVec 32 := Scalar.remsi c0_i32_23 c4_i32_24
  ![v52.toNat]
def k0_off2 (c0_i32_23 : BitVec 32) : Fin 3 → Nat :=
  let c4_i32_24 : BitVec 32 := 4#32
  let v52 : BitVec 32 := Scalar.remsi c0_i32_23 c4_i32_24
  let c0_i32_25 : BitVec 32 := 0#32
  let c0_i32_26 : BitVec 32 := 0#32
  ![v52.toNat, 0, 0]
def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c4_i32 : BitVec 32 := 4#32
  let v4 : BitVec 32 := Scalar.addi arg0 c4_i32
  let c1_i32_1 : BitVec 32 := 1#32
  let v5 : BitVec 32 := Scalar.subi v4 c1_i32_1
  let c16_i32 : BitVec 32 := 16#32
  let v6 : BitVec 1 := Scalar.cmpi .slt v5 c16_i32
  let v7 : BitVec 1 := Scalar.andi v3 v6
  let v8 : BitVec 32 := Scalar.extui v7
  let c0_i32_2 : BitVec 32 := 0#32
  let v9 : BitVec 1 := Scalar.cmpi .ne v8 c0_i32_2
  v9

def k0_off3 (i : grid0.Coords) : Fin 1 → Nat :=
  let arg0 : BitVec 32 := BitVec.ofNat 32 (i 0).val
  let c4_i32_23 : BitVec 32 := 4#32
  let v52 : BitVec 32 := Scalar.addi arg0 c4_i32_23
  let c1_i32_24 : BitVec 32 := 1#32
  let v53 : BitVec 32 := Scalar.subi v52 c1_i32_24
  let c4_i32_25 : BitVec 32 := 4#32
  let v54 : BitVec 32 := Scalar.remsi v53 c4_i32_25
  ![v54.toNat]
def k0_off4 (i : grid0.Coords) : Fin 3 → Nat :=
  let arg0 : BitVec 32 := BitVec.ofNat 32 (i 0).val
  let c4_i32_23 : BitVec 32 := 4#32
  let v52 : BitVec 32 := Scalar.addi arg0 c4_i32_23
  let c1_i32_24 : BitVec 32 := 1#32
  let v53 : BitVec 32 := Scalar.subi v52 c1_i32_24
  let c4_i32_25 : BitVec 32 := 4#32
  let v54 : BitVec 32 := Scalar.remsi v53 c4_i32_25
  let c0_i32_27 : BitVec 32 := 0#32
  let c0_i32_28 : BitVec 32 := 0#32
  ![v54.toNat, 0, 0]
def k0_off5 (i : grid0.Coords) : Fin 2 → Nat :=
  let arg0 : BitVec 32 := BitVec.ofNat 32 (i 0).val
  let c4_i32_23 : BitVec 32 := 4#32
  let v52 : BitVec 32 := Scalar.addi arg0 c4_i32_23
  let c1_i32_24 : BitVec 32 := 1#32
  let v53 : BitVec 32 := Scalar.subi v52 c1_i32_24
  let c512_i32_26 : BitVec 32 := 512#32
  let v55 : BitVec 32 := Scalar.muli v53 c512_i32_26
  let c0_i32_29 : BitVec 32 := 0#32
  ![v55.toNat, 0]
def k0_off6 (i : grid0.Coords) : Fin 1 → Nat :=
  let arg0 : BitVec 32 := BitVec.ofNat 32 (i 0).val
  let c4_i32_3 : BitVec 32 := 4#32
  let v10 : BitVec 32 := Scalar.remsi arg0 c4_i32_3
  ![v10.toNat]
def k0_off7 (i : grid0.Coords) : Fin 3 → Nat :=
  let arg0 : BitVec 32 := BitVec.ofNat 32 (i 0).val
  let c4_i32_3 : BitVec 32 := 4#32
  let v10 : BitVec 32 := Scalar.remsi arg0 c4_i32_3
  let c0_i32_4 : BitVec 32 := 0#32
  let c0_i32_5 : BitVec 32 := 0#32
  ![v10.toNat, 0, 0]
def k0_off8 (i : grid0.Coords) : Fin 2 → Nat :=
  let arg0 : BitVec 32 := BitVec.ofNat 32 (i 0).val
  let c512_i32 : BitVec 32 := 512#32
  let v11 : BitVec 32 := Scalar.muli arg0 c512_i32
  let c0_i32_6 : BitVec 32 := 0#32
  ![v11.toNat, 0]
def k0_cond3 (i : grid0.Coords) : BitVec 1 :=
  let arg0 : BitVec 32 := BitVec.ofNat 32 (i 0).val
  let c3_i32 : BitVec 32 := 3#32
  let v17 : BitVec 1 := Scalar.cmpi .sge arg0 c3_i32
  let v18 : BitVec 32 := Scalar.extui v17
  let c0_i32_7 : BitVec 32 := 0#32
  let v19 : BitVec 1 := Scalar.cmpi .ne v18 c0_i32_7
  v19

def k0_off9 (i : grid0.Coords) : Fin 1 → Nat :=
  let arg0 : BitVec 32 := BitVec.ofNat 32 (i 0).val
  let c3_i32_23 : BitVec 32 := 3#32
  let v52 : BitVec 32 := Scalar.subi arg0 c3_i32_23
  let c3_i32_24 : BitVec 32 := 3#32
  let v53 : BitVec 32 := Scalar.remsi v52 c3_i32_24
  ![v53.toNat]
def k0_off10 (i : grid0.Coords) : Fin 2 → Nat :=
  let arg0 : BitVec 32 := BitVec.ofNat 32 (i 0).val
  let c3_i32_23 : BitVec 32 := 3#32
  let v52 : BitVec 32 := Scalar.subi arg0 c3_i32_23
  let c512_i32_25 : BitVec 32 := 512#32
  let v54 : BitVec 32 := Scalar.muli v52 c512_i32_25
  let c0_i32_26 : BitVec 32 := 0#32
  ![v54.toNat, 0]
def k0_off11 (i : grid0.Coords) : Fin 3 → Nat :=
  let arg0 : BitVec 32 := BitVec.ofNat 32 (i 0).val
  let c3_i32_23 : BitVec 32 := 3#32
  let v52 : BitVec 32 := Scalar.subi arg0 c3_i32_23
  let c3_i32_24 : BitVec 32 := 3#32
  let v53 : BitVec 32 := Scalar.remsi v52 c3_i32_24
  let c0_i32_27 : BitVec 32 := 0#32
  let c0_i32_28 : BitVec 32 := 0#32
  ![v53.toNat, 0, 0]
def k0_off12 (i : grid0.Coords) : Fin 3 → Nat :=
  let arg0 : BitVec 32 := BitVec.ofNat 32 (i 0).val
  let c4_i32_8 : BitVec 32 := 4#32
  let v20 : BitVec 32 := Scalar.remsi arg0 c4_i32_8
  let v22 : Index := Scalar.indexCast v20
  let c0 : Index := 0#32
  let c0_10 : Index := 0#32
  ![v22.toNat, 0, 0]
def k0_off13 (i : grid0.Coords) : Fin 3 → Nat :=
  let arg0 : BitVec 32 := BitVec.ofNat 32 (i 0).val
  let c3_i32_9 : BitVec 32 := 3#32
  let v21 : BitVec 32 := Scalar.remsi arg0 c3_i32_9
  let v38 : Index := Scalar.indexCast v21
  let c0_15 : Index := 0#32
  let c0_16 : Index := 0#32
  ![v38.toNat, 0, 0]
def k0_off14 (i : grid0.Coords) : Fin 1 → Nat :=
  let arg0 : BitVec 32 := BitVec.ofNat 32 (i 0).val
  let c3_i32_17 : BitVec 32 := 3#32
  let v42 : BitVec 32 := Scalar.remsi arg0 c3_i32_17
  ![v42.toNat]
def k0_off15 (i : grid0.Coords) : Fin 3 → Nat :=
  let arg0 : BitVec 32 := BitVec.ofNat 32 (i 0).val
  let c3_i32_17 : BitVec 32 := 3#32
  let v42 : BitVec 32 := Scalar.remsi arg0 c3_i32_17
  let c0_i32_20 : BitVec 32 := 0#32
  let c0_i32_21 : BitVec 32 := 0#32
  ![v42.toNat, 0, 0]
def k0_cond4 (i : grid0.Coords) : BitVec 1 :=
  let arg0 : BitVec 32 := BitVec.ofNat 32 (i 0).val
  let c15_i32 : BitVec 32 := 15#32
  let v49 : BitVec 1 := Scalar.cmpi .eq arg0 c15_i32
  let v50 : BitVec 32 := Scalar.extui v49
  let c0_i32_22 : BitVec 32 := 0#32
  let v51 : BitVec 1 := Scalar.cmpi .ne v50 c0_i32_22
  v51

def k0_off16 (c13_i32 : BitVec 32) : Fin 1 → Nat :=
  let c3_i32_23 : BitVec 32 := 3#32
  let v52 : BitVec 32 := Scalar.remsi c13_i32 c3_i32_23
  ![v52.toNat]
def k0_off17 (c13_i32 : BitVec 32) : Fin 3 → Nat :=
  let c3_i32_23 : BitVec 32 := 3#32
  let v52 : BitVec 32 := Scalar.remsi c13_i32 c3_i32_23
  let c0_i32_25 : BitVec 32 := 0#32
  let c0_i32_26 : BitVec 32 := 0#32
  ![v52.toNat, 0, 0]
-- ==== Pointwise.lean ====
abbrev S8192x4096 : Shape := ⟨2, ![8192, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S_, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .i32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [BitOps F]
-- ==== KernelLog.lean ====
abbrev S8192x4096 : Shape := ⟨2, ![8192, 4096]⟩
abbrev S4x512x4096 : Shape := ⟨3, ![4, 512, 4096]⟩
abbrev S3x512x4096 : Shape := ⟨3, ![3, 512, 4096]⟩
abbrev S4 : Shape := ⟨1, ![4]⟩
abbrev S3 : Shape := ⟨1, ![3]⟩
abbrev S1 : Shape := ⟨1, ![1]⟩
abbrev S_ : Shape := ⟨0, ![]⟩
abbrev S1x512x4096 : Shape := ⟨3, ![1, 512, 4096]⟩
abbrev S512x4096 : Shape := ⟨2, ![512, 4096]⟩

abbrev nBuf : Space → Nat
  | .hbm => 2
  | .vmem => 2
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .local _ .vmem, ⟨0, _⟩ => ⟨S4x512x4096, .f32⟩
  | .local _ .vmem, ⟨1, _⟩ => ⟨S3x512x4096, .f32⟩
  | _, _ => ⟨S8192x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_scratch0 : Ref sig .tc := ⟨.vmem, 0, rfl⟩
abbrev cc0_scratch1 : Ref sig .tc := ⟨.vmem, 1, rfl⟩

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (c0_i32_23 : BitVec 32) : Fin 1 → Nat :=
  let c4_i32_24 : BitVec 32 := 4#32
  let v51 : BitVec 32 := Scalar.remsi c0_i32_23 c4_i32_24
  ![v51.toNat]
def k0_off2 (c0_i32_23 : BitVec 32) : Fin 3 → Nat :=
  let c4_i32_24 : BitVec 32 := 4#32
  let v51 : BitVec 32 := Scalar.remsi c0_i32_23 c4_i32_24
  let c0_i32_25 : BitVec 32 := 0#32
  let c0_i32_26 : BitVec 32 := 0#32
  ![v51.toNat, 0, 0]
def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c4_i32 : BitVec 32 := 4#32
  let v4 : BitVec 32 := Scalar.addi arg0 c4_i32
  let c1_i32_1 : BitVec 32 := 1#32
  let v5 : BitVec 32 := Scalar.subi v4 c1_i32_1
  let c16_i32 : BitVec 32 := 16#32
  let v6 : BitVec 1 := Scalar.cmpi .slt v5 c16_i32
  let v7 : BitVec 1 := Scalar.andi v3 v6
  let v8 : BitVec 32 := Scalar.extui v7
  let c0_i32_2 : BitVec 32 := 0#32
  let v9 : BitVec 1 := Scalar.cmpi .ne v8 c0_i32_2
  v9

def k0_off3 (i : grid0.Coords) : Fin 1 → Nat :=
  let arg0 : BitVec 32 := BitVec.ofNat 32 (i 0).val
  let c4_i32_23 : BitVec 32 := 4#32
  let v51 : BitVec 32 := Scalar.addi arg0 c4_i32_23
  let c1_i32_24 : BitVec 32 := 1#32
  let v52 : BitVec 32 := Scalar.subi v51 c1_i32_24
  let c4_i32_25 : BitVec 32 := 4#32
  let v53 : BitVec 32 := Scalar.remsi v52 c4_i32_25
  ![v53.toNat]
def k0_off4 (i : grid0.Coords) : Fin 3 → Nat :=
  let arg0 : BitVec 32 := BitVec.ofNat 32 (i 0).val
  let c4_i32_23 : BitVec 32 := 4#32
  let v51 : BitVec 32 := Scalar.addi arg0 c4_i32_23
  let c1_i32_24 : BitVec 32 := 1#32
  let v52 : BitVec 32 := Scalar.subi v51 c1_i32_24
  let c4_i32_25 : BitVec 32 := 4#32
  let v53 : BitVec 32 := Scalar.remsi v52 c4_i32_25
  let c0_i32_27 : BitVec 32 := 0#32
  let c0_i32_28 : BitVec 32 := 0#32
  ![v53.toNat, 0, 0]
def k0_off5 (i : grid0.Coords) : Fin 2 → Nat :=
  let arg0 : BitVec 32 := BitVec.ofNat 32 (i 0).val
  let c4_i32_23 : BitVec 32 := 4#32
  let v51 : BitVec 32 := Scalar.addi arg0 c4_i32_23
  let c1_i32_24 : BitVec 32 := 1#32
  let v52 : BitVec 32 := Scalar.subi v51 c1_i32_24
  let c512_i32_26 : BitVec 32 := 512#32
  let v54 : BitVec 32 := Scalar.muli v52 c512_i32_26
  let c0_i32_29 : BitVec 32 := 0#32
  ![v54.toNat, 0]
def k0_off6 (i : grid0.Coords) : Fin 1 → Nat :=
  let arg0 : BitVec 32 := BitVec.ofNat 32 (i 0).val
  let c4_i32_3 : BitVec 32 := 4#32
  let v10 : BitVec 32 := Scalar.remsi arg0 c4_i32_3
  ![v10.toNat]
def k0_off7 (i : grid0.Coords) : Fin 3 → Nat :=
  let arg0 : BitVec 32 := BitVec.ofNat 32 (i 0).val
  let c4_i32_3 : BitVec 32 := 4#32
  let v10 : BitVec 32 := Scalar.remsi arg0 c4_i32_3
  let c0_i32_4 : BitVec 32 := 0#32
  let c0_i32_5 : BitVec 32 := 0#32
  ![v10.toNat, 0, 0]
def k0_off8 (i : grid0.Coords) : Fin 2 → Nat :=
  let arg0 : BitVec 32 := BitVec.ofNat 32 (i 0).val
  let c512_i32 : BitVec 32 := 512#32
  let v11 : BitVec 32 := Scalar.muli arg0 c512_i32
  let c0_i32_6 : BitVec 32 := 0#32
  ![v11.toNat, 0]
def k0_cond3 (i : grid0.Coords) : BitVec 1 :=
  let arg0 : BitVec 32 := BitVec.ofNat 32 (i 0).val
  let c3_i32 : BitVec 32 := 3#32
  let v17 : BitVec 1 := Scalar.cmpi .sge arg0 c3_i32
  let v18 : BitVec 32 := Scalar.extui v17
  let c0_i32_7 : BitVec 32 := 0#32
  let v19 : BitVec 1 := Scalar.cmpi .ne v18 c0_i32_7
  v19

def k0_off9 (i : grid0.Coords) : Fin 1 → Nat :=
  let arg0 : BitVec 32 := BitVec.ofNat 32 (i 0).val
  let c3_i32_23 : BitVec 32 := 3#32
  let v51 : BitVec 32 := Scalar.subi arg0 c3_i32_23
  let c3_i32_24 : BitVec 32 := 3#32
  let v52 : BitVec 32 := Scalar.remsi v51 c3_i32_24
  ![v52.toNat]
def k0_off10 (i : grid0.Coords) : Fin 2 → Nat :=
  let arg0 : BitVec 32 := BitVec.ofNat 32 (i 0).val
  let c3_i32_23 : BitVec 32 := 3#32
  let v51 : BitVec 32 := Scalar.subi arg0 c3_i32_23
  let c512_i32_25 : BitVec 32 := 512#32
  let v53 : BitVec 32 := Scalar.muli v51 c512_i32_25
  let c0_i32_26 : BitVec 32 := 0#32
  ![v53.toNat, 0]
def k0_off11 (i : grid0.Coords) : Fin 3 → Nat :=
  let arg0 : BitVec 32 := BitVec.ofNat 32 (i 0).val
  let c3_i32_23 : BitVec 32 := 3#32
  let v51 : BitVec 32 := Scalar.subi arg0 c3_i32_23
  let c3_i32_24 : BitVec 32 := 3#32
  let v52 : BitVec 32 := Scalar.remsi v51 c3_i32_24
  let c0_i32_27 : BitVec 32 := 0#32
  let c0_i32_28 : BitVec 32 := 0#32
  ![v52.toNat, 0, 0]
def k0_off12 (i : grid0.Coords) : Fin 3 → Nat :=
  let arg0 : BitVec 32 := BitVec.ofNat 32 (i 0).val
  let c4_i32_8 : BitVec 32 := 4#32
  let v20 : BitVec 32 := Scalar.remsi arg0 c4_i32_8
  let v22 : Index := Scalar.indexCast v20
  let c0 : Index := 0#32
  let c0_10 : Index := 0#32
  ![v22.toNat, 0, 0]
def k0_off13 (i : grid0.Coords) : Fin 3 → Nat :=
  let arg0 : BitVec 32 := BitVec.ofNat 32 (i 0).val
  let c3_i32_9 : BitVec 32 := 3#32
  let v21 : BitVec 32 := Scalar.remsi arg0 c3_i32_9
  let v37 : Index := Scalar.indexCast v21
  let c0_15 : Index := 0#32
  let c0_16 : Index := 0#32
  ![v37.toNat, 0, 0]
def k0_off14 (i : grid0.Coords) : Fin 1 → Nat :=
  let arg0 : BitVec 32 := BitVec.ofNat 32 (i 0).val
  let c3_i32_17 : BitVec 32 := 3#32
  let v41 : BitVec 32 := Scalar.remsi arg0 c3_i32_17
  ![v41.toNat]
def k0_off15 (i : grid0.Coords) : Fin 3 → Nat :=
  let arg0 : BitVec 32 := BitVec.ofNat 32 (i 0).val
  let c3_i32_17 : BitVec 32 := 3#32
  let v41 : BitVec 32 := Scalar.remsi arg0 c3_i32_17
  let c0_i32_20 : BitVec 32 := 0#32
  let c0_i32_21 : BitVec 32 := 0#32
  ![v41.toNat, 0, 0]
def k0_cond4 (i : grid0.Coords) : BitVec 1 :=
  let arg0 : BitVec 32 := BitVec.ofNat 32 (i 0).val
  let c15_i32 : BitVec 32 := 15#32
  let v48 : BitVec 1 := Scalar.cmpi .eq arg0 c15_i32
  let v49 : BitVec 32 := Scalar.extui v48
  let c0_i32_22 : BitVec 32 := 0#32
  let v50 : BitVec 1 := Scalar.cmpi .ne v49 c0_i32_22
  v50

def k0_off16 (c13_i32 : BitVec 32) : Fin 1 → Nat :=
  let c3_i32_23 : BitVec 32 := 3#32
  let v51 : BitVec 32 := Scalar.remsi c13_i32 c3_i32_23
  ![v51.toNat]
def k0_off17 (c13_i32 : BitVec 32) : Fin 3 → Nat :=
  let c3_i32_23 : BitVec 32 := 3#32
  let v51 : BitVec 32 := Scalar.remsi c13_i32 c3_i32_23
  let c0_i32_25 : BitVec 32 := 0#32
  let c0_i32_26 : BitVec 32 := 0#32
  ![v51.toNat, 0, 0]
-- ==== KernelLogIdeal.lean ====
variable {F : FTy → Type} [FloatOps F] [Named F]
def κ : String → Option EReal := fun
  | "log_c" => some ((Real.log 10 : ℝ) : EReal)
  | _ => none
-- ==== ReferenceIdeal.lean ====
abbrev S8192x4096 : Shape := ⟨2, ![8192, 4096]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S_, .f32⟩
  | .hbm, ⟨2, _⟩ => ⟨S8192x4096, .f32⟩
  | .hbm, ⟨3, _⟩ => ⟨S8192x4096, .i1⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8192x4096, .f32⟩
  | .hbm, ⟨16, _⟩ => ⟨S8192x4096, .i1⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_v2 : Ref sig .tc := ⟨.hbm, 7, rfl⟩
abbrev main_cst_1 : Ref sig .tc := ⟨.hbm, 8, rfl⟩
abbrev main_call1_v0 : Ref sig .tc := ⟨.hbm, 9, rfl⟩
abbrev main_call1_v1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_cst_3 : Ref sig .tc := ⟨.hbm, 14, rfl⟩
abbrev main_v5 : Ref sig .tc := ⟨.hbm, 15, rfl⟩
abbrev main_v6 : Ref sig .tc := ⟨.hbm, 16, rfl⟩
abbrev main_cst_4 : Ref sig .tc := ⟨.hbm, 17, rfl⟩
abbrev main_v7 : Ref sig .tc := ⟨.hbm, 18, rfl⟩
abbrev main_v8 : Ref sig .tc := ⟨.hbm, 19, rfl⟩
abbrev main_cst_5 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_6 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]
-- ==== Proof.Scalar.lean ====
/- The activation on one extended real, in the kernel's form and in the reference's, and that the two agree. -/
module

public import Idealize.ShloMosaic.PureOps.Ideal
public import Idealize.ShloMosaic.PureOps.Ideal.Laws
public import Mathlib.Analysis.Convex.SpecificFunctions.Basic

@[expose] public section

noncomputable section

namespace Cert.Scalar

open Idealize.ShloMosaic

/-- The logarithmic branch: `log (3/2 · x + 1) + 6 - log 10`. -/
def tail (x : EReal) : EReal :=
  Ideal.log (((3 / 2 : ℝ) : EReal) * x + ((1 : ℝ) : EReal)) + ((6 : ℝ) : EReal) - ((Real.log 10 : ℝ) : EReal)

/-- The kernel's form: the smaller of `x` and the logarithmic branch, not below zero. -/
def clamped (x : EReal) : EReal := max 0 (min x (tail x))

/-- The reference's form: `x` clipped below at zero, and from `6` on the logarithmic branch of that. -/
def branched (x : EReal) : EReal := if ((6 : ℝ) : EReal) ≤ max 0 x then tail (max 0 x) else max 0 x

/-- `log 10` is below `6`. -/
theorem log_ten_le : Real.log 10 ≤ 6 := by
  rw [Real.log_le_iff_le_exp (by norm_num)]
  have h := Real.add_one_le_exp (3 : ℝ)
  have h2 : Real.exp 6 = Real.exp 3 * Real.exp 3 := by rw [← Real.exp_add]; norm_num
  nlinarith

/-- Below `6` the identity is under the logarithmic branch: the logarithm lies above its chord from `1` to `10`. -/
theorem le_branch (r : ℝ) (h0 : 0 ≤ r) (h6 : r ≤ 6) : r ≤ Real.log (3 / 2 * r + 1) + 6 - Real.log 10 := by
  have hc := strictConcaveOn_log_Ioi.concaveOn.2 (show (1 : ℝ) ∈ Set.Ioi 0 by norm_num [Set.mem_Ioi])
    (show (10 : ℝ) ∈ Set.Ioi 0 by norm_num [Set.mem_Ioi]) (show 0 ≤ 1 - r / 6 by linarith) (show 0 ≤ r / 6 by linarith)
    (by ring)
  have e : (1 - r / 6) • (1 : ℝ) + (r / 6) • (10 : ℝ) = 3 / 2 * r + 1 := by simp only [smul_eq_mul]; ring
  rw [e] at hc
  simp only [smul_eq_mul, Real.log_one, mul_zero, zero_add] at hc
  nlinarith [log_ten_le]

/-- From `6` on the logarithmic branch is under the identity: `log u ≤ u - 1` at `u = (3/2 · r + 1) / 10`. -/
theorem branch_le (r : ℝ) (h6 : 6 ≤ r) : Real.log (3 / 2 * r + 1) + 6 - Real.log 10 ≤ r := by
  have h := Real.log_le_sub_one_of_pos (show 0 < (3 / 2 * r + 1) / 10 by positivity)
  rw [Real.log_div (by positivity) (by norm_num)] at h
  linarith

/-- From `6` on the logarithmic branch is not negative. -/
theorem branch_nonneg (r : ℝ) (h6 : 6 ≤ r) : 0 ≤ Real.log (3 / 2 * r + 1) + 6 - Real.log 10 := by
  have h : Real.log 10 ≤ Real.log (3 / 2 * r + 1) := Real.log_le_log (by norm_num) (by linarith)
  linarith

/-- The logarithmic branch at a real that is not negative is the real expression. -/
theorem tail_coe (r : ℝ) (h0 : 0 ≤ r) : tail r = ((Real.log (3 / 2 * r + 1) + 6 - Real.log 10 : ℝ) : EReal) := by
  have hp : ¬ (3 / 2 * r + 1 ≤ 0) := by linarith
  unfold tail
  rw [← EReal.coe_mul, ← EReal.coe_add, Ideal.log_coe, if_neg hp, ← EReal.coe_add, ← EReal.coe_sub]

/-- The logarithmic branch at `+∞` is `+∞`. -/
theorem tail_top : tail ⊤ = ⊤ := by
  unfold tail
  rw [EReal.coe_mul_top_of_pos (by norm_num), EReal.top_add_coe, Ideal.log_top, EReal.top_add_coe, EReal.top_sub_coe]

/-- The kernel's form and the reference's are one function of the extended reals. -/
theorem clamped_eq (x : EReal) : clamped x = branched x := by
  unfold clamped branched
  induction x with
  | bot =>
    have h : ¬ (((6 : ℝ) : EReal) ≤ 0) := by
      rw [← EReal.coe_zero, EReal.coe_le_coe_iff]; norm_num
    rw [min_eq_left bot_le, max_eq_left (bot_le : (⊥ : EReal) ≤ 0), if_neg h]
  | top =>
    rw [tail_top, min_self, max_eq_right (le_top : (0 : EReal) ≤ ⊤), if_pos le_top, tail_top]
  | coe r =>
    rcases lt_or_ge r 0 with hn | h0
    · have hr : (r : EReal) ≤ 0 := by rw [← EReal.coe_zero, EReal.coe_le_coe_iff]; exact hn.le
      have h : ¬ (((6 : ℝ) : EReal) ≤ 0) := by
        rw [← EReal.coe_zero, EReal.coe_le_coe_iff]; norm_num
      rw [max_eq_left ((min_le_left _ _).trans hr), max_eq_left hr, if_neg h]
    · have hr : (0 : EReal) ≤ r := by rw [← EReal.coe_zero, EReal.coe_le_coe_iff]; exact h0
      rw [max_eq_right hr, tail_coe r h0]
      rcases lt_or_ge r 6 with h6 | h6
      · rw [if_neg (not_le.mpr (EReal.coe_lt_coe_iff.mpr h6)), min_eq_left (EReal.coe_le_coe_iff.mpr (le_branch r h0 h6.le)), max_eq_right hr]
      · rw [if_pos (EReal.coe_le_coe_iff.mpr h6), min_eq_right (EReal.coe_le_coe_iff.mpr (branch_le r h6)), max_eq_right]
        rw [← EReal.coe_zero, EReal.coe_le_coe_iff]
        exact branch_nonneg r h6

end Cert.Scalar

end
-- ==== Proof.Owned.lean ====
/- Rules for one memory operation at a time, over memrefs a core owns (`owns`): start a copy, wait for it, load a
   rectangle, store a rectangle. Each is stated as what the operation turns the memrefs it names into. -/
module

public import Idealize.ShloMosaic.Lib.Pipeline.FrameBody
public import Idealize.ShloMosaic.Lib.Memref
public import Idealize.ShloMosaic.Lib.Ring
public import Idealize.ShloMosaic.Lib.Tactic

@[expose] public section

set_option maxRecDepth 16384

noncomputable section

namespace Cert.Owned

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

/-- The propositions over the machine the rules speak of. -/
local notation "𝕄" => MT nD τ sig Unit Val ℕ (Pipeline.UD sig nD τ) ℕ

variable (D : Defs nD τ sig Val Λ) (c : Dev nD)

/-- The core's own record of its waits, whatever it holds. -/
def recorded : sProp 𝕄 := iprop(∃ W : Waits sig Unit, owes (c : Thread nD τ) 0 W)

/-- A copy under way on a semaphore: at the wait it gives the destination reading `X`, and the source back, reading
    `X` too. -/
def flying {sp sp' : Space} {s : Shape} {e : EltTy} (src : Memref sig .tc sp s e) (dst : Memref sig .tc sp' s e)
    (sem : DmaSem sig) (X : s.Idx → Val e) : sProp 𝕄 :=
  Transfers.Flight countersEmb (c : Thread nD τ) (.dma sem) () dst.view.dmaCredit
    iprop(owns (c : Thread nD τ) dst fullShare X ∗ owns (c : Thread nD τ) src fullShare X)

/-- A memref's elements at contents it reads as `X` are the memref owned at `X`. -/
theorem owns_at {sp : Space} {s : Shape} {e : EltTy} {m : Memref sig .tc sp s e} {X : s.Idx → Val e}
    {f : Buf Val (m.view.loc (c : Thread nD τ))} (h : m.view.read Val f = X) :
    (m.view.loc (c : Thread nD τ) ↦[m.view.set]{fullShare} f : sProp 𝕄) ⊢ owns (c : Thread nD τ) m fullShare X := by
  unfold owns
  iintro H
  iexists f
  isplitr
  · ipureintro; exact h
  · iexact H

/-- Starting a copy: the source read, the destination at anything and the semaphore at zero become the copy under way. -/
theorem start {sp sp' : Space} {s : Shape} {e : EltTy} {src : Memref sig .tc sp s e} {dst : Memref sig .tc sp' s e}
    {sem : DmaSem sig} {h₁ : src.view.WordExact} {h₂ : dst.view.WordExact}
    {h₃ : DmaTarget.Typed (nD := nD) (p := (.tc : Proc τ)) sp (.dma sem) (.here dst)} (X : s.Idx → Val e) (hpos : 0 < dst.view.dmaCredit) :
    iprop(owns (c : Thread nD τ) src fullShare X ∗ (∃ Y, owns (c : Thread nD τ) dst fullShare Y)
        ∗ semVal ((c : Thread nD τ), SemLoc.dma sem) 0)
      ⊢ (wp frame (wpE D Variants.none (c : Thread nD τ) none) Set.univ
          (Prog.lift (.enqueueDma src (.here dst) (.dma sem) h₁ h₂ h₃) : Prog (TpuEff nD τ sig Val Λ .tc) PUnit)
          (fun _ => flying c src dst sem X) : sProp 𝕄) := by
  unfold owns flying
  iintro ⟨⟨%fs, %hfs, Hs⟩, ⟨%Y, %fd, -, Hd⟩, Hv⟩
  iapply (Transfers.wp_dmaLocal countersEmb Variants.none (c : Thread nD τ) none () dst.view.dmaCredit rfl hpos subset_rfl) $$ [Hs Hd Hv]
  · isplitl [Hs]; · iexact Hs
    isplitl [Hd]; · iexact Hd
    iexact Hv
  iintro HF
  iapply (le_wp_ret frame _ Set.univ PUnit.unit _)
  iapply (Transfers.Flight_mono countersEmb (c : Thread nD τ) ?_) $$ HF
  iintro ⟨Hd, Hs⟩
  isplitl [Hd]
  · iapply (owns_at c (m := dst) (f := dst.view.write Val fd (src.view.read Val fs) Finset.univ)
      ((View.read_write_univ _ _).trans hfs)) $$ Hd
  · iapply (owns_at c (m := src) (f := fs) hfs) $$ Hs

/-- Waiting for a copy under way: the destination and the source back, the semaphore at zero. -/
theorem wait {sp sp' : Space} {s : Shape} {e : EltTy} {src : Memref sig .tc sp s e} {dst : Memref sig .tc sp' s e}
    {sem : DmaSem sig} {h₁ : src.view.WordExact} {h₂ : dst.view.WordExact} (X : s.Idx → Val e) :
    iprop(flying c src dst sem X ∗ recorded c)
      ⊢ (wp frame (wpE D Variants.none (c : Thread nD τ) none) Set.univ
          (Prog.lift (.waitDma2 sem src dst h₁ h₂) : Prog (TpuEff nD τ sig Val Λ .tc) PUnit)
          (fun _ => iprop((owns (c : Thread nD τ) dst fullShare X ∗ owns (c : Thread nD τ) src fullShare X)
            ∗ semVal ((c : Thread nD τ), SemLoc.dma sem) 0 ∗ recorded c)) : sProp 𝕄) := by
  unfold flying recorded
  iintro ⟨HF, ⟨%W, HW⟩⟩
  iapply (Transfers.wp_waitLocal countersEmb Variants.none (c : Thread nD τ) none () rfl) $$ [HF HW]
  · isplitl [HF]; · iexact HF
    iexact HW
  iintro ⟨HD, Hv, HW⟩
  iapply (le_wp_ret frame _ Set.univ PUnit.unit _)
  isplitl [HD]; · iexact HD
  isplitl [Hv]; · iexact Hv
  iexists _; iexact HW

/-- Loading the rectangle a slice names reads what the slice is owned at. -/
theorem load {s : Shape} {e : EltTy} {m : Memref sig .tc .vmem s e} {r : Rect s} {hr : ∀ a, r.stride a = 1}
    {hl : m.view.LoadsAt r.toLoadRect} (X : r.shape.Idx → Val e) :
    owns (c : Thread nD τ) (m.slice r hr) fullShare X
      ⊢ (wp frame (wpE D Variants.none (c : Thread nD τ) none) Set.univ
          (Prog.lift (.load m r.toLoadRect hl) : Prog (TpuEff nD τ sig Val Λ .tc) (r.shape.Idx → Val e))
          (fun v => iprop(⌜v = X⌝ ∗ owns (c : Thread nD τ) (m.slice r hr) fullShare X)) : sProp 𝕄) := by
  unfold owns
  iintro ⟨%f, %hf, H⟩
  iapply (wp_load_rect Variants.none (c : Thread nD τ) none Set.univ (m := m) (r := r) (f := f) subset_rfl) $$ [H]
  · iexact H
  iintro H
  iapply (le_wp_ret frame _ Set.univ _ _)
  isplitr
  · ipureintro; exact hf
  · iexists f
    isplitr
    · ipureintro; exact hf
    · iexact H

/-- Storing through the rectangle a slice names leaves the slice reading what was stored. -/
theorem store {s : Shape} {e : EltTy} {m : Memref sig .tc .vmem s e} {r : Rect s} {hr : ∀ a, r.stride a = 1}
    (w : r.shape.Idx → Val e) {hx : (m.access r).Stores Finset.univ} {hm : Finset.univ = Finset.univ ∨ ∀ a, r.stride a = 1} :
    iprop(∃ X, owns (c : Thread nD τ) (m.slice r hr) fullShare X)
      ⊢ (wp frame (wpE D Variants.none (c : Thread nD τ) none) Set.univ
          (Prog.lift (.store m r w Finset.univ hx hm) : Prog (TpuEff nD τ sig Val Λ .tc) PUnit)
          (fun _ => owns (c : Thread nD τ) (m.slice r hr) fullShare w) : sProp 𝕄) := by
  unfold owns
  iintro ⟨%X, %f, -, H⟩
  iapply (wp_store Variants.none (c : Thread nD τ) none Set.univ (m := m) (r := r) (f := f) subset_rfl) $$ [H]
  · iexact H
  iintro H
  iapply (le_wp_ret frame _ Set.univ PUnit.unit _)
  iexists (m.access r).write Val f w Finset.univ
  isplitr
  · ipureintro; exact View.read_write_univ _ _
  · iexact H

/-- Owning a squeezed memref is owning the memref itself, its elements named by the indices they had before. -/
theorem owns_squeeze {sp : Space} {s s' : Shape} {e : EltTy} (m : Memref sig .tc sp s e) (h : s.Squeezes s') (X : s.Idx → Val e) :
    (owns (c : Thread nD τ) (m.squeeze s' h) fullShare (fun j => X (Shape.reshapeEquiv h.numel_eq j)) : sProp 𝕄)
      = owns (c : Thread nD τ) m fullShare X := by
  unfold owns
  have h₁ : iprop(∃ f, ⌜(m.squeeze s' h).view.read Val f = fun j => X (Shape.reshapeEquiv h.numel_eq j)⌝
        ∗ ((m.squeeze s' h).view.loc (c : Thread nD τ) ↦[(m.squeeze s' h).view.set]{fullShare} f))
      ⊢ (iprop(∃ f, ⌜m.view.read Val f = X⌝ ∗ (m.view.loc (c : Thread nD τ) ↦[m.view.set]{fullShare} f)) : sProp 𝕄) := by
    iintro ⟨%f, %hf, H⟩
    iexists f
    isplitr
    · ipureintro
      funext i
      have hi : m.view.read Val f (Shape.reshapeEquiv h.numel_eq ((Shape.reshapeEquiv h.numel_eq).symm i))
          = X (Shape.reshapeEquiv h.numel_eq ((Shape.reshapeEquiv h.numel_eq).symm i)) :=
        congrFun hf ((Shape.reshapeEquiv h.numel_eq).symm i)
      rwa [Equiv.apply_symm_apply] at hi
    · rw [View.set_reshape m.view h.numel_eq]; iexact H
  have h₂ : iprop(∃ f, ⌜m.view.read Val f = X⌝ ∗ (m.view.loc (c : Thread nD τ) ↦[m.view.set]{fullShare} f))
      ⊢ (iprop(∃ f, ⌜(m.squeeze s' h).view.read Val f = fun j => X (Shape.reshapeEquiv h.numel_eq j)⌝
        ∗ ((m.squeeze s' h).view.loc (c : Thread nD τ) ↦[(m.squeeze s' h).view.set]{fullShare} f)) : sProp 𝕄) := by
    iintro ⟨%f, %hf, H⟩
    iexists f
    isplitr
    · ipureintro
      rw [← hf]; rfl
    · rw [View.set_reshape m.view h.numel_eq]; iexact H
  exact equiv_iff.mp ⟨h₁, h₂⟩

end Cert.Owned

end
-- ==== Proof.Pipe.lean ====
/- The pipelined walk over the rows, written once over the memory it uses: sixteen blocks of 512 rows come in through a
   ring of four slots and go out through a ring of three, each slot with its own semaphore. This module has the walk's
   text and what each of its operations does to the slots and the rows of blocks. -/
module

public import proofs.«01_k».proof.Proof.Owned

@[expose] public section

set_option maxRecDepth 16384

noncomputable section

namespace Cert.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Owned

/-- The arrays. -/
abbrev S8192x4096 : Shape := ⟨2, ![8192, 4096]⟩
/-- The ring in. -/
abbrev S4x512x4096 : Shape := ⟨3, ![4, 512, 4096]⟩
/-- The ring out. -/
abbrev S3x512x4096 : Shape := ⟨3, ![3, 512, 4096]⟩
/-- The semaphores of the ring in. -/
abbrev S4 : Shape := ⟨1, ![4]⟩
/-- The semaphores of the ring out. -/
abbrev S3 : Shape := ⟨1, ![3]⟩
/-- One semaphore of an array of them. -/
abbrev S1 : Shape := ⟨1, ![1]⟩
/-- A single semaphore. -/
abbrev S_ : Shape := ⟨0, ![]⟩
/-- A slot, with its leading axis. -/
abbrev S1x512x4096 : Shape := ⟨3, ![1, 512, 4096]⟩
/-- A block of rows. -/
abbrev S512x4096 : Shape := ⟨2, ![512, 4096]⟩

/-- One semaphore of an array of them is a single one. -/
theorem sq_sem : S1.Squeezes S_ := by decide
/-- A slot without its leading axis is a block. -/
theorem sq_slot : S1x512x4096.Squeezes S512x4096 := by decide
/-- A slot has elements. -/
theorem numel_slot : 0 < S1x512x4096.numel := by decide

/-- The memory the walk uses: the array read, the array written, the two rings and their semaphores. -/
structure Bufs (sig : RefSig) where
  X : Memref sig .tc .hbm S8192x4096 .f32
  O : Memref sig .tc .hbm S8192x4096 .f32
  IB : Memref sig .tc .vmem S4x512x4096 .f32
  OB : Memref sig .tc .vmem S3x512x4096 .f32
  SI : DmaSems sig S4
  SO : DmaSems sig S3

/-- What one step computes from its index: its four conditions, and the offset of each rectangle it names, with the
    fact that the rectangle lies in its buffer. -/
structure Offs where
  c1 : BitVec 1
  c2 : BitVec 1
  c3 : BitVec 1
  c4 : BitVec 1
  o1 : BitVec 32 → Fin 1 → ℕ
  b1 : c1 = 1#1 → ∀ (r : Fin 4), ∀ a, o1 (BitVec.ofNat 32 r.val) a + S1.size a ≤ S4.size a
  o2 : BitVec 32 → Fin 3 → ℕ
  b2 : c1 = 1#1 → ∀ (r : Fin 4), ∀ a, o2 (BitVec.ofNat 32 r.val) a + S1x512x4096.size a ≤ S4x512x4096.size a
  o3 : Fin 1 → ℕ
  b3 : c2 = 1#1 → ∀ a, o3 a + S1.size a ≤ S4.size a
  o4 : Fin 3 → ℕ
  b4 : c2 = 1#1 → ∀ a, o4 a + S1x512x4096.size a ≤ S4x512x4096.size a
  o5 : Fin 2 → ℕ
  b5 : c2 = 1#1 → ∀ a, o5 a + S512x4096.size a ≤ S8192x4096.size a
  o6 : Fin 1 → ℕ
  b6 : ∀ a, o6 a + S1.size a ≤ S4.size a
  o7 : Fin 3 → ℕ
  b7 : ∀ a, o7 a + S1x512x4096.size a ≤ S4x512x4096.size a
  o8 : Fin 2 → ℕ
  b8 : ∀ a, o8 a + S512x4096.size a ≤ S8192x4096.size a
  o9 : Fin 1 → ℕ
  b9 : c3 = 1#1 → ∀ a, o9 a + S1.size a ≤ S3.size a
  o10 : Fin 2 → ℕ
  b10 : c3 = 1#1 → ∀ a, o10 a + S512x4096.size a ≤ S8192x4096.size a
  o11 : Fin 3 → ℕ
  b11 : c3 = 1#1 → ∀ a, o11 a + S1x512x4096.size a ≤ S3x512x4096.size a
  o12 : Fin 3 → ℕ
  b12 : ∀ a, o12 a + S1x512x4096.size a ≤ S4x512x4096.size a
  o13 : Fin 3 → ℕ
  b13 : ∀ a, o13 a + S1x512x4096.size a ≤ S3x512x4096.size a
  o14 : Fin 1 → ℕ
  b14 : ∀ a, o14 a + S1.size a ≤ S3.size a
  o15 : Fin 3 → ℕ
  b15 : ∀ a, o15 a + S1x512x4096.size a ≤ S3x512x4096.size a
  o16 : BitVec 32 → Fin 1 → ℕ
  b16 : c4 = 1#1 → ∀ (r : Fin 3), ∀ a, o16 (BitVec.ofNat 32 (13 + r.val)) a + S1.size a ≤ S3.size a
  o17 : BitVec 32 → Fin 3 → ℕ
  b17 : c4 = 1#1 → ∀ (r : Fin 3), ∀ a, o17 (BitVec.ofNat 32 (13 + r.val)) a + S1x512x4096.size a ≤ S3x512x4096.size a

/-- The offset of the `k`-th block's rows. -/
abbrev rowOff (k : ℕ) : Fin 2 → ℕ := ![k % 16 * 512, 0]
/-- The offset of the slot block `k` uses in a ring of `n`. -/
abbrev slotOff (n k : ℕ) : Fin 3 → ℕ := ![k % n, 0, 0]
/-- The offset of the semaphore block `k` uses in a ring of `n`. -/
abbrev semOff (n k : ℕ) : Fin 1 → ℕ := ![k % n]

/-- The conditions and offsets of a step are those of step `t`. -/
structure Offs.At (f : Offs) (t : ℕ) : Prop where
  lt : t < 16
  c1 : f.c1 = 1#1 ↔ t = 0
  c2 : f.c2 = 1#1 ↔ 1 ≤ t ∧ t + 3 < 16
  c3 : f.c3 = 1#1 ↔ 3 ≤ t
  c4 : f.c4 = 1#1 ↔ t = 15
  o1 : ∀ r : Fin 4, f.o1 (BitVec.ofNat 32 r.val) = semOff 4 r.val
  o2 : ∀ r : Fin 4, f.o2 (BitVec.ofNat 32 r.val) = slotOff 4 r.val
  o3 : f.o3 = semOff 4 (t + 3)
  o4 : f.o4 = slotOff 4 (t + 3)
  o5 : t + 3 < 16 → f.o5 = rowOff (t + 3)
  o6 : f.o6 = semOff 4 t
  o7 : f.o7 = slotOff 4 t
  o8 : f.o8 = rowOff t
  o9 : 3 ≤ t → f.o9 = semOff 3 (t - 3)
  o10 : 3 ≤ t → f.o10 = rowOff (t - 3)
  o11 : 3 ≤ t → f.o11 = slotOff 3 (t - 3)
  o12 : f.o12 = slotOff 4 t
  o13 : f.o13 = slotOff 3 t
  o14 : f.o14 = semOff 3 t
  o15 : f.o15 = slotOff 3 t
  o16 : ∀ r : Fin 3, f.o16 (BitVec.ofNat 32 (13 + r.val)) = semOff 3 (13 + r.val)
  o17 : ∀ r : Fin 3, f.o17 (BitVec.ofNat 32 (13 + r.val)) = slotOff 3 (13 + r.val)

section Text

variable {nD : Nat} {τ : Topo} {sig : RefSig} {F : FTy → Type} {Λ : Labels} {α : Type} (B : Bufs sig)

/-- A semaphore of a ring, the one at the offset. -/
abbrev semAt {n : ℕ} (S : DmaSems sig ⟨1, ![n]⟩) (o : Fin 1 → ℕ) (h : ∀ a, o a + S1.size a ≤ (⟨1, ![n]⟩ : Shape).size a) : DmaSem sig :=
  ((S.slice (Rect.unit (s := ⟨1, ![n]⟩) o S1.size h)).squeeze S_ sq_sem).sem
/-- A slot of a ring, as the copies name it. -/
abbrev slotAt {n : ℕ} (M : Memref sig .tc .vmem ⟨3, ![n, 512, 4096]⟩ .f32) (o : Fin 3 → ℕ)
    (h : ∀ a, o a + S1x512x4096.size a ≤ (⟨3, ![n, 512, 4096]⟩ : Shape).size a) : Memref sig .tc .vmem S512x4096 .f32 :=
  (M.slice (Rect.unit (s := ⟨3, ![n, 512, 4096]⟩) o S1x512x4096.size h) (fun _ => rfl)).squeeze S512x4096 sq_slot
/-- The rows of a block, as the copies name them. -/
abbrev rowsAt (M : Memref sig .tc .hbm S8192x4096 .f32) (o : Fin 2 → ℕ) (h : ∀ a, o a + S512x4096.size a ≤ S8192x4096.size a) :
    Memref sig .tc .hbm S512x4096 .f32 :=
  M.slice (Rect.unit (s := S8192x4096) o S512x4096.size h) (fun _ => rfl)

/-- Start a block's copy in. -/
abbrev startIn (o : Fin 1 → ℕ) (h : ∀ a, o a + S1.size a ≤ S4.size a) (o' : Fin 3 → ℕ)
    (h' : ∀ a, o' a + S1x512x4096.size a ≤ S4x512x4096.size a) (o'' : Fin 2 → ℕ) (h'' : ∀ a, o'' a + S512x4096.size a ≤ S8192x4096.size a) :
    Prog (TpuEff nD τ sig (Elt F) Λ .tc) PUnit :=
  Prog.lift (.enqueueDma (rowsAt B.X o'' h'') (.here (slotAt B.IB o' h')) (.dma (semAt B.SI o h)) (View.wordExact_bits rfl)
    ((View.wordExact_bits rfl).reshape _ _) ⟨Or.inl rfl, trivial⟩)
/-- Wait for a block's copy in. -/
abbrev waitIn (o : Fin 1 → ℕ) (h : ∀ a, o a + S1.size a ≤ S4.size a) (o' : Fin 3 → ℕ)
    (h' : ∀ a, o' a + S1x512x4096.size a ≤ S4x512x4096.size a) (o'' : Fin 2 → ℕ) (h'' : ∀ a, o'' a + S512x4096.size a ≤ S8192x4096.size a) :
    Prog (TpuEff nD τ sig (Elt F) Λ .tc) PUnit :=
  Prog.lift (.waitDma2 (semAt B.SI o h) (rowsAt B.X o'' h'') (slotAt B.IB o' h') (View.wordExact_bits rfl)
    ((View.wordExact_bits rfl).reshape _ _))
/-- Start a block's copy out. -/
abbrev startOut (o : Fin 1 → ℕ) (h : ∀ a, o a + S1.size a ≤ S3.size a) (o' : Fin 3 → ℕ)
    (h' : ∀ a, o' a + S1x512x4096.size a ≤ S3x512x4096.size a) (o'' : Fin 2 → ℕ) (h'' : ∀ a, o'' a + S512x4096.size a ≤ S8192x4096.size a) :
    Prog (TpuEff nD τ sig (Elt F) Λ .tc) PUnit :=
  Prog.lift (.enqueueDma (slotAt B.OB o' h') (.here (rowsAt B.O o'' h'')) (.dma (semAt B.SO o h))
    ((View.wordExact_bits rfl).reshape _ _) (View.wordExact_bits rfl) ⟨Or.inl rfl, trivial⟩)
/-- Wait for a block's copy out. -/
abbrev waitOut (o : Fin 1 → ℕ) (h : ∀ a, o a + S1.size a ≤ S3.size a) (o' : Fin 3 → ℕ)
    (h' : ∀ a, o' a + S1x512x4096.size a ≤ S3x512x4096.size a) (o'' : Fin 2 → ℕ) (h'' : ∀ a, o'' a + S512x4096.size a ≤ S8192x4096.size a) :
    Prog (TpuEff nD τ sig (Elt F) Λ .tc) PUnit :=
  Prog.lift (.waitDma2 (semAt B.SO o h) (slotAt B.OB o' h') (rowsAt B.O o'' h'') ((View.wordExact_bits rfl).reshape _ _)
    (View.wordExact_bits rfl))

/-- Every block lies in the array. -/
theorem inb_row (k : ℕ) : ∀ a, rowOff k a + S512x4096.size a ≤ S8192x4096.size a := by
  intro a; fin_cases a
  · show k % 16 * 512 + 512 ≤ 8192; omega
  · show 0 + 4096 ≤ 4096; omega
/-- Every slot lies in its ring. -/
theorem inb_slot (n : ℕ) (hn : 0 < n) (k : ℕ) : ∀ a, slotOff n k a + S1x512x4096.size a ≤ (⟨3, ![n, 512, 4096]⟩ : Shape).size a := by
  have := Nat.mod_lt k hn
  intro a; fin_cases a
  · show k % n + 1 ≤ n; omega
  · show 0 + 512 ≤ 512; omega
  · show 0 + 4096 ≤ 4096; omega
/-- Every semaphore lies in its array. -/
theorem inb_sem (n : ℕ) (hn : 0 < n) (k : ℕ) : ∀ a, semOff n k a + S1.size a ≤ (⟨1, ![n]⟩ : Shape).size a := by
  have := Nat.mod_lt k hn
  intro a; fin_cases a
  show k % n + 1 ≤ n; omega

/-- Block 0 lies in the array. -/
theorem inb_0 : ∀ a, (![0, 0] : Fin 2 → ℕ) a + S512x4096.size a ≤ S8192x4096.size a := inb_row 0
/-- Block 1 lies in the array. -/
theorem inb_1 : ∀ a, (![512, 0] : Fin 2 → ℕ) a + S512x4096.size a ≤ S8192x4096.size a := inb_row 1
/-- Block 2 lies in the array. -/
theorem inb_2 : ∀ a, (![1024, 0] : Fin 2 → ℕ) a + S512x4096.size a ≤ S8192x4096.size a := inb_row 2
/-- Block 3 lies in the array. -/
theorem inb_3 : ∀ a, (![1536, 0] : Fin 2 → ℕ) a + S512x4096.size a ≤ S8192x4096.size a := inb_row 3
/-- Block 13 lies in the array. -/
theorem inb_13 : ∀ a, (![6656, 0] : Fin 2 → ℕ) a + S512x4096.size a ≤ S8192x4096.size a := inb_row 13
/-- Block 14 lies in the array. -/
theorem inb_14 : ∀ a, (![7168, 0] : Fin 2 → ℕ) a + S512x4096.size a ≤ S8192x4096.size a := inb_row 14
/-- Block 15 lies in the array. -/
theorem inb_15 : ∀ a, (![7680, 0] : Fin 2 → ℕ) a + S512x4096.size a ≤ S8192x4096.size a := inb_row 15

variable (f : Offs)

/-- On the first step: start the first four blocks' copies in. -/
def prologue (k : Prog (TpuEff nD τ sig (Elt F) Λ .tc) α) : Prog (TpuEff nD τ sig (Elt F) Λ .tc) α :=
  if h : f.c1 = 1#1 then
    startIn B (f.o1 0#32) (f.b1 h 0) (f.o2 0#32) (f.b2 h 0) ![0, 0] inb_0 >>= fun _ =>
    startIn B (f.o1 1#32) (f.b1 h 1) (f.o2 1#32) (f.b2 h 1) ![512, 0] inb_1 >>= fun _ =>
    startIn B (f.o1 2#32) (f.b1 h 2) (f.o2 2#32) (f.b2 h 2) ![1024, 0] inb_2 >>= fun _ =>
    startIn B (f.o1 3#32) (f.b1 h 3) (f.o2 3#32) (f.b2 h 3) ![1536, 0] inb_3 >>= fun _ => k
  else k

/-- On a later step with three more blocks ahead: start the third's copy in. -/
def ahead (k : Prog (TpuEff nD τ sig (Elt F) Λ .tc) α) : Prog (TpuEff nD τ sig (Elt F) Λ .tc) α :=
  if h : f.c2 = 1#1 then startIn B f.o3 (f.b3 h) f.o4 (f.b4 h) f.o5 (f.b5 h) >>= fun _ => k else k

/-- From the fourth step on: wait for the copy out of three steps before. -/
def behind (k : Prog (TpuEff nD τ sig (Elt F) Λ .tc) α) : Prog (TpuEff nD τ sig (Elt F) Λ .tc) α :=
  if h : f.c3 = 1#1 then waitOut B f.o9 (f.b9 h) f.o11 (f.b11 h) f.o10 (f.b10 h) >>= fun _ => k else k

/-- On the last step: wait for the last three copies out. -/
def drain (k : Prog (TpuEff nD τ sig (Elt F) Λ .tc) α) : Prog (TpuEff nD τ sig (Elt F) Λ .tc) α :=
  if h : f.c4 = 1#1 then
    waitOut B (f.o16 13#32) (f.b16 h 0) (f.o17 13#32) (f.b17 h 0) ![6656, 0] inb_13 >>= fun _ =>
    waitOut B (f.o16 14#32) (f.b16 h 1) (f.o17 14#32) (f.b17 h 1) ![7168, 0] inb_14 >>= fun _ =>
    waitOut B (f.o16 15#32) (f.b16 h 2) (f.o17 15#32) (f.b17 h 2) ![7680, 0] inb_15 >>= fun _ => k
  else k

/-- The part of a step up to the load of the block. -/
def fetch (ret : (S1x512x4096.Idx → Elt F .f32) → α) : Prog (TpuEff nD τ sig (Elt F) Λ .tc) α :=
  prologue B f <| ahead B f <|
    waitIn B f.o6 f.b6 f.o7 f.b7 f.o8 f.b8 >>= fun _ => behind B f <|
    Prog.lift (.load B.IB (Rect.unit (s := S4x512x4096) f.o12 S1x512x4096.size f.b12).toLoadRect (View.loadsAt_vmem numel_slot)) >>= fun v =>
    pure (ret v)

/-- The part of a step after the block is computed: store it and send it out. -/
def send (w : S1x512x4096.Idx → Elt F .f32) : Prog (TpuEff nD τ sig (Elt F) Λ .tc) PUnit :=
  Prog.lift (.load B.OB (Rect.unit (s := S3x512x4096) f.o13 S1x512x4096.size f.b13).toLoadRect (View.loadsAt_vmem numel_slot)) >>= fun _ =>
  Prog.lift (.store B.OB (Rect.unit (s := S3x512x4096) f.o13 S1x512x4096.size f.b13) w Finset.univ
    (View.stores_vmem_bits_univ numel_slot rfl) (.inl rfl)) >>= fun _ =>
  startOut B f.o14 f.b14 f.o15 f.b15 f.o8 f.b8 >>= fun _ => drain B f (pure ⟨⟩)

/-- One step: fetch a block, compute with `out`, send the outcome. -/
def step (ret : (S1x512x4096.Idx → Elt F .f32) → α) (out : α → S1x512x4096.Idx → Elt F .f32) : Prog (TpuEff nD τ sig (Elt F) Λ .tc) PUnit :=
  fetch B f ret >>= fun r => send B f (out r)

end Text

end Cert.Pipe

end
-- ==== Proof.Walk.lean ====
/- What the pipelined walk holds between its steps, and that each step keeps it: the copies under way, the slots free,
   the blocks of the array read that are back home, and the blocks of the array written that hold their outcome. -/
module

public import proofs.«01_k».proof.Proof.Pipe

@[expose] public section

set_option maxRecDepth 16384

noncomputable section

namespace Cert.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Owned

variable {nD : Nat} {τ : Topo} {sig : RefSig} {F : FTy → Type} {Λ : Labels} {α : Type}

/-- The propositions over the machine the invariant is one of. -/
local notation "𝕄" => MT nD τ sig Unit (Elt F) ℕ (Pipeline.UD sig nD τ) ℕ

variable (D : Defs nD τ sig (Elt F) Λ) (c : Dev nD) (B : Bufs sig)
  (x : S8192x4096.Idx → Elt F .f32) (g : Elt F .f32 → Elt F .f32)

/-! ## Blocks, rows and slots by number -/

/-- The `k`-th block of an array. -/
def blk (y : S8192x4096.Idx → Elt F .f32) (k : ℕ) : S512x4096.Idx → Elt F .f32 :=
  fun j => y ((Rect.unit (s := S8192x4096) (rowOff k) S512x4096.size (inb_row k)).emb j)

/-- The `k`-th block of the array read. -/
abbrev xrow (k : ℕ) : Memref sig .tc .hbm S512x4096 .f32 := rowsAt B.X (rowOff k) (inb_row k)
/-- The `k`-th block of the array written. -/
abbrev orow (k : ℕ) : Memref sig .tc .hbm S512x4096 .f32 := rowsAt B.O (rowOff k) (inb_row k)
/-- The slot in of the `k`-th block. -/
abbrev islot (k : ℕ) : Memref sig .tc .vmem S512x4096 .f32 := slotAt B.IB (slotOff 4 k) (inb_slot 4 (by decide) k)
/-- The slot out of the `k`-th block. -/
abbrev oslot (k : ℕ) : Memref sig .tc .vmem S512x4096 .f32 := slotAt B.OB (slotOff 3 k) (inb_slot 3 (by decide) k)
/-- The semaphore of the `k`-th block's copy in. -/
abbrev isem (k : ℕ) : DmaSem sig := semAt B.SI (semOff 4 k) (inb_sem 4 (by decide) k)
/-- The semaphore of the `k`-th block's copy out. -/
abbrev osem (k : ℕ) : DmaSem sig := semAt B.SO (semOff 3 k) (inb_sem 3 (by decide) k)

/-- The `k`-th block of the array read, in its place. -/
def home (k : ℕ) : sProp 𝕄 := owns (c : Thread nD τ) (xrow B k) fullShare (blk x k)
/-- The copy in of the `k`-th block, under way. -/
def inFlight (k : ℕ) : sProp 𝕄 := flying c (xrow B k) (islot B k) (isem B k) (blk x k)
/-- The slot in of the `k`-th block, free. -/
def inFree (k : ℕ) : sProp 𝕄 :=
  iprop((∃ w, owns (c : Thread nD τ) (islot B k) fullShare w) ∗ semVal ((c : Thread nD τ), SemLoc.dma (isem B k)) 0)
/-- The slot in of the `k`-th block: its copy under way, or free when there is no such block. -/
def inRole (k : ℕ) : sProp 𝕄 := if k < 16 then inFlight c B x k else inFree c B k
/-- The `k`-th block of the array written, holding its outcome. -/
def result (k : ℕ) : sProp 𝕄 := owns (c : Thread nD τ) (orow B k) fullShare (blk (fun i => g (x i)) k)
/-- The `k`-th block of the array written, at anything. -/
def blank (k : ℕ) : sProp 𝕄 := iprop(∃ w, owns (c : Thread nD τ) (orow B k) fullShare w)
/-- The copy out of the `k`-th block's outcome, under way. -/
def outFlight (k : ℕ) : sProp 𝕄 := flying c (oslot B k) (orow B k) (osem B k) (blk (fun i => g (x i)) k)
/-- The slot out of the `k`-th block, free. -/
def outFree (k : ℕ) : sProp 𝕄 :=
  iprop((∃ w, owns (c : Thread nD τ) (oslot B k) fullShare w) ∗ semVal ((c : Thread nD τ), SemLoc.dma (osem B k)) 0)
/-- The slot out of the `k`-th block before that block is stored: the copy out of three blocks before under way, or free. -/
def outRole (k : ℕ) : sProp 𝕄 := if 3 ≤ k then outFlight c B x g (k - 3) else outFree c B k

/-- A ring of `n` slots comes round after `n` blocks. -/
theorem slotOff_add (n k : ℕ) : slotOff n (k + n) = slotOff n k := by simp only [slotOff, Nat.add_mod_right]
/-- An array of `n` semaphores comes round after `n` blocks. -/
theorem semOff_add (n k : ℕ) : semOff n (k + n) = semOff n k := by simp only [semOff, Nat.add_mod_right]

/-- Slots at equal offsets are equal. -/
theorem slotAt_congr {n : ℕ} (M : Memref sig .tc .vmem ⟨3, ![n, 512, 4096]⟩ .f32) {o o' : Fin 3 → ℕ} (e : o = o')
    (h : ∀ a, o a + S1x512x4096.size a ≤ (⟨3, ![n, 512, 4096]⟩ : Shape).size a)
    (h' : ∀ a, o' a + S1x512x4096.size a ≤ (⟨3, ![n, 512, 4096]⟩ : Shape).size a) : slotAt M o h = slotAt M o' h' := by
  subst e; rfl

/-- Semaphores at equal offsets are equal. -/
theorem semAt_congr {n : ℕ} (S : DmaSems sig ⟨1, ![n]⟩) {o o' : Fin 1 → ℕ} (e : o = o')
    (h : ∀ a, o a + S1.size a ≤ (⟨1, ![n]⟩ : Shape).size a)
    (h' : ∀ a, o' a + S1.size a ≤ (⟨1, ![n]⟩ : Shape).size a) : semAt S o h = semAt S o' h' := by
  subst e; rfl

/-- The slot in comes round after four blocks. -/
theorem inFree_add (k : ℕ) : (inFree c B (k + 4) : sProp 𝕄) = inFree c B k := by
  unfold inFree
  have e₁ : islot B (k + 4) = islot B k := slotAt_congr B.IB (slotOff_add 4 k) _ _
  have e₂ : isem B (k + 4) = isem B k := semAt_congr B.SI (semOff_add 4 k) _ _
  rw [e₁, e₂]

/-- The slot out comes round after three blocks. -/
theorem outFree_add (k : ℕ) : (outFree c B (k + 3) : sProp 𝕄) = outFree c B k := by
  unfold outFree
  have e₁ : oslot B (k + 3) = oslot B k := slotAt_congr B.OB (slotOff_add 3 k) _ _
  have e₂ : osem B (k + 3) = osem B k := semAt_congr B.SO (semOff_add 3 k) _ _
  rw [e₁, e₂]

/-! ## Blocks before and from a number on -/

/-- `P` of each block before the `t`-th. -/
def below (P : ℕ → sProp 𝕄) (t : ℕ) : sProp 𝕄 := bigSep (Finset.univ.filter fun k : Fin 16 => k.val < t) fun k => P k.val
/-- `P` of each block from the `t`-th on. -/
def above (P : ℕ → sProp 𝕄) (t : ℕ) : sProp 𝕄 := bigSep (Finset.univ.filter fun k : Fin 16 => t ≤ k.val) fun k => P k.val

/-- No block is before the first. -/
theorem below_zero (P : ℕ → sProp 𝕄) : below P 0 = iprop(emp) := by
  unfold below
  rw [show (Finset.univ.filter fun k : Fin 16 => k.val < 0) = ∅ from Finset.filter_false_of_mem fun _ _ => Nat.not_lt_zero _, bigSep_empty]; rfl

/-- Every block is before the end. -/
theorem below_end (P : ℕ → sProp 𝕄) {t : ℕ} (ht : 16 ≤ t) : below P t = bigSep Finset.univ fun k : Fin 16 => P k.val := by
  unfold below
  rw [show (Finset.univ.filter fun k : Fin 16 => k.val < t) = Finset.univ from Finset.filter_true_of_mem fun k _ => by omega]

/-- Every block is from the first on. -/
theorem above_zero (P : ℕ → sProp 𝕄) : above P 0 = bigSep Finset.univ fun k : Fin 16 => P k.val := by
  unfold above
  rw [show (Finset.univ.filter fun k : Fin 16 => 0 ≤ k.val) = Finset.univ from Finset.filter_true_of_mem fun _ _ => Nat.zero_le _]

/-- No block is from the end on. -/
theorem above_end (P : ℕ → sProp 𝕄) {t : ℕ} (ht : 16 ≤ t) : above P t = iprop(emp) := by
  unfold above
  rw [show (Finset.univ.filter fun k : Fin 16 => t ≤ k.val) = ∅ from Finset.filter_false_of_mem fun k _ => by omega, bigSep_empty]; rfl

/-- One block more is before the next number. -/
theorem below_succ (P : ℕ → sProp 𝕄) {t : ℕ} (ht : t < 16) : below P (t + 1) = iprop(P t ∗ below P t) := by
  unfold below
  rw [show (Finset.univ.filter fun k : Fin 16 => k.val < t + 1) = insert (⟨t, ht⟩ : Fin 16) (Finset.univ.filter fun k : Fin 16 => k.val < t) from by
    ext k; simp only [Finset.mem_filter, Finset.mem_univ, true_and, Finset.mem_insert, Fin.ext_iff]; omega,
    bigSep_insert (by simp)]; rfl

/-- The blocks from a number on are the block of that number and those after it. -/
theorem above_succ (P : ℕ → sProp 𝕄) {t : ℕ} (ht : t < 16) : above P t = iprop(P t ∗ above P (t + 1)) := by
  unfold above
  rw [show (Finset.univ.filter fun k : Fin 16 => t ≤ k.val) = insert (⟨t, ht⟩ : Fin 16) (Finset.univ.filter fun k : Fin 16 => t + 1 ≤ k.val) from by
    ext k; simp only [Finset.mem_filter, Finset.mem_univ, true_and, Finset.mem_insert, Fin.ext_iff]; omega,
    bigSep_insert (by simp)]; rfl

/-! ## One operation of the walk -/

/-- A program's first operation, by its own rule, and the rest from what it leaves. -/
theorem seq {β : Type} {p : Prog (TpuEff nD τ sig (Elt F) Λ .tc) β} {K : β → Prog (TpuEff nD τ sig (Elt F) Λ .tc) α}
    {P : sProp 𝕄} {Ψ : β → sProp 𝕄} {Q : α → sProp 𝕄}
    (h : P ⊢ wp frame (wpE D Variants.none (c : Thread nD τ) none) Set.univ p Ψ) :
    P ⊢ iprop((∀ a, Ψ a -∗ wp frame (wpE D Variants.none (c : Thread nD τ) none) Set.univ (K a) Q)
      -∗ wp frame (wpE D Variants.none (c : Thread nD τ) none) Set.univ (p >>= K) Q) := by
  rw [wp_bind]
  exact h.trans (wp_wand frame _ Set.univ)

/-- Starting a block's copy in. -/
theorem startIn_wp (k : ℕ) {o : Fin 1 → ℕ} {h : ∀ a, o a + S1.size a ≤ S4.size a} {o' : Fin 3 → ℕ}
    {h' : ∀ a, o' a + S1x512x4096.size a ≤ S4x512x4096.size a} {o'' : Fin 2 → ℕ} {h'' : ∀ a, o'' a + S512x4096.size a ≤ S8192x4096.size a}
    (e : o = semOff 4 k) (e' : o' = slotOff 4 k) (e'' : o'' = rowOff k) :
    iprop(home c B x k ∗ inFree c B k)
      ⊢ (wp frame (wpE D Variants.none (c : Thread nD τ) none) Set.univ (startIn B o h o' h' o'' h'') fun _ => inFlight c B x k : sProp 𝕄) := by
  subst e e' e''
  unfold home inFree inFlight
  exact start D c (blk x k) (View.dmaCredit_pos _ (by decide))

/-- Waiting for a block's copy in. -/
theorem waitIn_wp (k : ℕ) {o : Fin 1 → ℕ} {h : ∀ a, o a + S1.size a ≤ S4.size a} {o' : Fin 3 → ℕ}
    {h' : ∀ a, o' a + S1x512x4096.size a ≤ S4x512x4096.size a} {o'' : Fin 2 → ℕ} {h'' : ∀ a, o'' a + S512x4096.size a ≤ S8192x4096.size a}
    (e : o = semOff 4 k) (e' : o' = slotOff 4 k) (e'' : o'' = rowOff k) :
    iprop(inFlight c B x k ∗ recorded c)
      ⊢ (wp frame (wpE D Variants.none (c : Thread nD τ) none) Set.univ (waitIn B o h o' h' o'' h'')
          fun _ => iprop((owns (c : Thread nD τ) (islot B k) fullShare (blk x k) ∗ home c B x k)
            ∗ semVal ((c : Thread nD τ), SemLoc.dma (isem B k)) 0 ∗ recorded c) : sProp 𝕄) := by
  subst e e' e''
  unfold home inFlight
  exact wait D c (blk x k)

/-- Starting a block's copy out. -/
theorem startOut_wp (k : ℕ) {o : Fin 1 → ℕ} {h : ∀ a, o a + S1.size a ≤ S3.size a} {o' : Fin 3 → ℕ}
    {h' : ∀ a, o' a + S1x512x4096.size a ≤ S3x512x4096.size a} {o'' : Fin 2 → ℕ} {h'' : ∀ a, o'' a + S512x4096.size a ≤ S8192x4096.size a}
    (e : o = semOff 3 k) (e' : o' = slotOff 3 k) (e'' : o'' = rowOff k) :
    iprop(owns (c : Thread nD τ) (oslot B k) fullShare (blk (fun i => g (x i)) k) ∗ blank c B k
        ∗ semVal ((c : Thread nD τ), SemLoc.dma (osem B k)) 0)
      ⊢ (wp frame (wpE D Variants.none (c : Thread nD τ) none) Set.univ (startOut B o h o' h' o'' h'') fun _ => outFlight c B x g k : sProp 𝕄) := by
  subst e e' e''
  unfold blank outFlight
  exact start D c (blk (fun i => g (x i)) k) (View.dmaCredit_pos _ (by decide))

/-- Waiting for a block's copy out. -/
theorem waitOut_wp (k : ℕ) {o : Fin 1 → ℕ} {h : ∀ a, o a + S1.size a ≤ S3.size a} {o' : Fin 3 → ℕ}
    {h' : ∀ a, o' a + S1x512x4096.size a ≤ S3x512x4096.size a} {o'' : Fin 2 → ℕ} {h'' : ∀ a, o'' a + S512x4096.size a ≤ S8192x4096.size a}
    (e : o = semOff 3 k) (e' : o' = slotOff 3 k) (e'' : o'' = rowOff k) :
    iprop(outFlight c B x g k ∗ recorded c)
      ⊢ (wp frame (wpE D Variants.none (c : Thread nD τ) none) Set.univ (waitOut B o h o' h' o'' h'')
          fun _ => iprop(result c B x g k ∗ outFree c B k ∗ recorded c) : sProp 𝕄) := by
  subst e e' e''
  unfold result outFree outFlight
  refine (wait D c (blk (fun i => g (x i)) k)).trans (wp_mono frame _ Set.univ fun _ => ?_)
  iintro ⟨⟨Ho, Hs⟩, Hv, HW⟩
  isplitl [Ho]; · iexact Ho
  isplitl [Hs Hv]
  · isplitl [Hs]; · iexists _; iexact Hs
    iexact Hv
  · iexact HW

/-- The contents of a slot as the load reads them: a block with a leading axis of extent one. -/
def lead (X : S512x4096.Idx → Elt F .f32) : S1x512x4096.Idx → Elt F .f32 := fun i => X ((Shape.reshapeEquiv sq_slot.numel_eq).symm i)

/-- Contents given a leading axis and read without it are the contents. -/
theorem lead_slot (X : S512x4096.Idx → Elt F .f32) : (fun j => lead X (Shape.reshapeEquiv sq_slot.numel_eq j)) = X := by
  funext j; unfold lead; rw [Equiv.symm_apply_apply]

/-- A slot owned as the copies name it is the slot as loads and stores name it. -/
theorem owns_slotAt {n : ℕ} (M : Memref sig .tc .vmem ⟨3, ![n, 512, 4096]⟩ .f32) (o : Fin 3 → ℕ)
    (h : ∀ a, o a + S1x512x4096.size a ≤ (⟨3, ![n, 512, 4096]⟩ : Shape).size a) (X : S512x4096.Idx → Elt F .f32) :
    (owns (c : Thread nD τ) (slotAt M o h) fullShare X : sProp 𝕄)
      = owns (c : Thread nD τ) (M.slice (Rect.unit (s := ⟨3, ![n, 512, 4096]⟩) o S1x512x4096.size h) (fun _ => rfl)) fullShare (lead X) := by
  conv_lhs => rw [← lead_slot X]
  exact owns_squeeze c _ sq_slot (lead X)

/-- A slot named as the copies name it, for a load or a store. -/
theorem slot_open {n : ℕ} (M : Memref sig .tc .vmem ⟨3, ![n, 512, 4096]⟩ .f32) (o : Fin 3 → ℕ)
    (h : ∀ a, o a + S1x512x4096.size a ≤ (⟨3, ![n, 512, 4096]⟩ : Shape).size a) (X : S512x4096.Idx → Elt F .f32) :
    (owns (c : Thread nD τ) (slotAt M o h) fullShare X : sProp 𝕄)
      ⊢ owns (c : Thread nD τ) (M.slice (Rect.unit (s := ⟨3, ![n, 512, 4096]⟩) o S1x512x4096.size h) (fun _ => rfl)) fullShare (lead X) :=
  (equiv_iff.mpr (owns_slotAt c M o h X)).1

/-- A slot named as loads and stores name it, for the copies. -/
theorem slot_close {n : ℕ} (M : Memref sig .tc .vmem ⟨3, ![n, 512, 4096]⟩ .f32) (o : Fin 3 → ℕ)
    (h : ∀ a, o a + S1x512x4096.size a ≤ (⟨3, ![n, 512, 4096]⟩ : Shape).size a) (X : S512x4096.Idx → Elt F .f32) :
    (owns (c : Thread nD τ) (M.slice (Rect.unit (s := ⟨3, ![n, 512, 4096]⟩) o S1x512x4096.size h) (fun _ => rfl)) fullShare (lead X) : sProp 𝕄)
      ⊢ owns (c : Thread nD τ) (slotAt M o h) fullShare X :=
  (equiv_iff.mpr (owns_slotAt c M o h X)).2

/-- Loading a slot of a ring. -/
theorem load_wp {n : ℕ} (M : Memref sig .tc .vmem ⟨3, ![n, 512, 4096]⟩ .f32) (o : Fin 3 → ℕ)
    (h : ∀ a, o a + S1x512x4096.size a ≤ (⟨3, ![n, 512, 4096]⟩ : Shape).size a) (X : S512x4096.Idx → Elt F .f32)
    {hl : M.view.LoadsAt (Rect.unit (s := ⟨3, ![n, 512, 4096]⟩) o S1x512x4096.size h).toLoadRect} :
    owns (c : Thread nD τ) (slotAt M o h) fullShare X
      ⊢ (wp frame (wpE D Variants.none (c : Thread nD τ) none) Set.univ
          (Prog.lift (.load M (Rect.unit (s := ⟨3, ![n, 512, 4096]⟩) o S1x512x4096.size h).toLoadRect hl))
          fun v => iprop(⌜v = lead X⌝ ∗ owns (c : Thread nD τ) (slotAt M o h) fullShare X) : sProp 𝕄) := by
  have h₁ := load (Λ := Λ) (hl := hl) D c (m := M) (r := Rect.unit (s := ⟨3, ![n, 512, 4096]⟩) o S1x512x4096.size h)
    (hr := fun _ => rfl) (lead X)
  refine (slot_open c M o h X).trans (h₁.trans (wp_mono frame _ Set.univ fun v => ?_))
  iintro ⟨%hv, H⟩
  isplitr
  · ipureintro; exact hv
  · iapply (slot_close c M o h X) $$ H

/-- Storing a slot of a ring. -/
theorem store_wp {n : ℕ} (M : Memref sig .tc .vmem ⟨3, ![n, 512, 4096]⟩ .f32) (o : Fin 3 → ℕ)
    (h : ∀ a, o a + S1x512x4096.size a ≤ (⟨3, ![n, 512, 4096]⟩ : Shape).size a) (X : S512x4096.Idx → Elt F .f32)
    {hx : (M.access (Rect.unit (s := ⟨3, ![n, 512, 4096]⟩) o S1x512x4096.size h)).Stores Finset.univ}
    {hm : Finset.univ = Finset.univ ∨ ∀ a, (Rect.unit (s := ⟨3, ![n, 512, 4096]⟩) o S1x512x4096.size h).stride a = 1} :
    iprop(∃ Y, owns (c : Thread nD τ) (slotAt M o h) fullShare Y)
      ⊢ (wp frame (wpE D Variants.none (c : Thread nD τ) none) Set.univ
          (Prog.lift (.store M (Rect.unit (s := ⟨3, ![n, 512, 4096]⟩) o S1x512x4096.size h) (lead X) Finset.univ hx hm))
          fun _ => owns (c : Thread nD τ) (slotAt M o h) fullShare X : sProp 𝕄) := by
  have h₁ := store (Λ := Λ) D c (m := M) (r := Rect.unit (s := ⟨3, ![n, 512, 4096]⟩) o S1x512x4096.size h)
    (hr := fun _ => rfl) (lead X) (hx := hx) (hm := hm)
  refine BIBase.Entails.trans ?_ (h₁.trans (wp_mono frame _ Set.univ fun _ => slot_close c M o h X))
  iintro ⟨%Y, H⟩
  iexists lead Y
  iapply (slot_open c M o h Y) $$ H

/-- Loading the slot of a block in the ring in. -/
theorem loadIn (k : ℕ) {o : Fin 3 → ℕ} (e : o = slotOff 4 k) (h : ∀ a, o a + S1x512x4096.size a ≤ S4x512x4096.size a)
    (X : S512x4096.Idx → Elt F .f32) {hl : B.IB.view.LoadsAt (Rect.unit (s := S4x512x4096) o S1x512x4096.size h).toLoadRect} :
    owns (c : Thread nD τ) (islot B k) fullShare X
      ⊢ (wp frame (wpE D Variants.none (c : Thread nD τ) none) Set.univ
          (Prog.lift (.load B.IB (Rect.unit (s := S4x512x4096) o S1x512x4096.size h).toLoadRect hl))
          fun v => iprop(⌜v = lead X⌝ ∗ owns (c : Thread nD τ) (islot B k) fullShare X) : sProp 𝕄) := by
  subst e
  exact load_wp D c B.IB (slotOff 4 k) h X (hl := hl)

/-- Loading the slot of a block in the ring out. -/
theorem loadOut (k : ℕ) {o : Fin 3 → ℕ} (e : o = slotOff 3 k) (h : ∀ a, o a + S1x512x4096.size a ≤ S3x512x4096.size a)
    (X : S512x4096.Idx → Elt F .f32) {hl : B.OB.view.LoadsAt (Rect.unit (s := S3x512x4096) o S1x512x4096.size h).toLoadRect} :
    owns (c : Thread nD τ) (oslot B k) fullShare X
      ⊢ (wp frame (wpE D Variants.none (c : Thread nD τ) none) Set.univ
          (Prog.lift (.load B.OB (Rect.unit (s := S3x512x4096) o S1x512x4096.size h).toLoadRect hl))
          fun v => iprop(⌜v = lead X⌝ ∗ owns (c : Thread nD τ) (oslot B k) fullShare X) : sProp 𝕄) := by
  subst e
  exact load_wp D c B.OB (slotOff 3 k) h X (hl := hl)

/-- Storing the slot of a block in the ring out. -/
theorem storeOut (k : ℕ) {o : Fin 3 → ℕ} (e : o = slotOff 3 k) (h : ∀ a, o a + S1x512x4096.size a ≤ S3x512x4096.size a)
    (X : S512x4096.Idx → Elt F .f32)
    {hx : (B.OB.access (Rect.unit (s := S3x512x4096) o S1x512x4096.size h)).Stores Finset.univ}
    {hm : Finset.univ = Finset.univ ∨ ∀ a, (Rect.unit (s := S3x512x4096) o S1x512x4096.size h).stride a = 1} :
    iprop(∃ Y, owns (c : Thread nD τ) (oslot B k) fullShare Y)
      ⊢ (wp frame (wpE D Variants.none (c : Thread nD τ) none) Set.univ
          (Prog.lift (.store B.OB (Rect.unit (s := S3x512x4096) o S1x512x4096.size h) (lead X) Finset.univ hx hm))
          fun _ => owns (c : Thread nD τ) (oslot B k) fullShare X : sProp 𝕄) := by
  subst e
  exact store_wp D c B.OB (slotOff 3 k) h X (hx := hx) (hm := hm)

end Cert.Pipe

end
-- ==== Proof.Step.lean ====
/- One step of the pipelined walk, from what is held before it to what is held after it. -/
module

public import proofs.«01_k».proof.Proof.Walk

@[expose] public section

set_option maxRecDepth 16384

noncomputable section

namespace Cert.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Owned

variable {nD : Nat} {τ : Topo} {sig : RefSig} {F : FTy → Type} {Λ : Labels} {α : Type}

/-- The propositions over the machine the invariant is one of. -/
local notation "𝕄" => MT nD τ sig Unit (Elt F) ℕ (Pipeline.UD sig nD τ) ℕ

variable (D : Defs nD τ sig (Elt F) Λ) (c : Dev nD) (B : Bufs sig)
  (x : S8192x4096.Idx → Elt F .f32) (g : Elt F .f32 → Elt F .f32)

/-! ## The invariant -/

/-- The array read and the ring in, before step `t`: at the start nothing is under way; later the next three blocks are
    (those there are), and the fourth slot is free. -/
def inHeld (t : ℕ) : sProp 𝕄 :=
  if t = 0 then iprop(below (home c B x) 0 ∗ above (home c B x) 0 ∗ inFree c B 0 ∗ inFree c B 1 ∗ inFree c B 2 ∗ inFree c B 3)
  else iprop(below (home c B x) t ∗ above (home c B x) (t + 3) ∗ inRole c B x t ∗ inRole c B x (t + 1) ∗ inRole c B x (t + 2)
    ∗ inFree c B (t + 3))

/-- The array read and the ring in, once step `t` has started its copies in: the next four blocks are under way. -/
def inStarted (t : ℕ) : sProp 𝕄 :=
  iprop(below (home c B x) t ∗ above (home c B x) (t + 4) ∗ inRole c B x t ∗ inRole c B x (t + 1) ∗ inRole c B x (t + 2)
    ∗ inRole c B x (t + 3))

/-- The array written and the ring out, before step `t` and before the last wait: the last three blocks stored are under
    way (those there are). -/
def outHeld (t : ℕ) : sProp 𝕄 :=
  iprop(below (result c B x g) (t - 3) ∗ above (blank c B) t ∗ outRole c B x g t ∗ outRole c B x g (t + 1) ∗ outRole c B x g (t + 2))

/-- The array written and the ring out at the end: every block holds its outcome. -/
def outDone : sProp 𝕄 := iprop(below (result c B x g) 16 ∗ outFree c B 0 ∗ outFree c B 1 ∗ outFree c B 2)

/-- What is held before step `t`, or at the end. -/
def held (t : ℕ) : sProp 𝕄 := iprop(inHeld c B x t ∗ (if t = 16 then outDone c B x g else outHeld c B x g t))

/-- Before the last block, the slot in is the target of a copy under way. -/
theorem inRole_lt {k : ℕ} (h : k < 16) : (inRole c B x k : sProp 𝕄) = inFlight c B x k := if_pos h
/-- Past the last block, the slot in is free. -/
theorem inRole_ge {k : ℕ} (h : ¬ k < 16) : (inRole c B x k : sProp 𝕄) = inFree c B k := if_neg h
/-- From the third block on, the slot out is the source of a copy under way. -/
theorem outRole_ge {k : ℕ} (h : 3 ≤ k) : (outRole c B x g k : sProp 𝕄) = outFlight c B x g (k - 3) := if_pos h
/-- Before the third block, the slot out is free. -/
theorem outRole_lt {k : ℕ} (h : ¬ 3 ≤ k) : (outRole c B x g k : sProp 𝕄) = outFree c B k := if_neg h

/-- What is held of the input before the first step: every block in its place, every slot free. -/
theorem inHeld_zero : (inHeld c B x 0 : sProp 𝕄)
    = iprop(below (home c B x) 0 ∗ above (home c B x) 0 ∗ inFree c B 0 ∗ inFree c B 1 ∗ inFree c B 2 ∗ inFree c B 3) := if_pos rfl
/-- What is held of the input before a later step: three copies under way, or free slots past the end, and one free slot. -/
theorem inHeld_pos {t : ℕ} (h : t ≠ 0) : (inHeld c B x t : sProp 𝕄)
    = iprop(below (home c B x) t ∗ above (home c B x) (t + 3) ∗ inRole c B x t ∗ inRole c B x (t + 1) ∗ inRole c B x (t + 2)
      ∗ inFree c B (t + 3)) := if_neg h

/-! ## A step, part by part -/

variable {f : Offs} {t : ℕ} (hA : f.At t)

/-- Starting the copies in: on the first step four, later one, or none when there are no more. -/
theorem arrive (K : Prog (TpuEff nD τ sig (Elt F) Λ .tc) α) (Q : α → sProp 𝕄) (hA : f.At t) :
    iprop(inHeld c B x t ∗ (inStarted c B x t -∗ wp frame (wpE D Variants.none (c : Thread nD τ) none) Set.univ K Q))
      ⊢ wp frame (wpE D Variants.none (c : Thread nD τ) none) Set.univ (prologue B f (ahead B f K)) Q := by
  by_cases h0 : t = 0
  · subst h0
    rw [show ahead B f K = K from dif_neg fun h => absurd (hA.c2.mp h).1 (by omega), inHeld_zero, above_succ _ (t := 0) (by omega),
      above_succ _ (t := 0 + 1) (by omega), above_succ _ (t := 0 + 1 + 1) (by omega), above_succ _ (t := 0 + 1 + 1 + 1) (by omega)]
    unfold prologue
    rw [dif_pos (hA.c1.mpr rfl)]
    unfold inStarted
    rw [inRole_lt c B x (k := 0) (by omega), inRole_lt c B x (k := 0 + 1) (by omega), inRole_lt c B x (k := 0 + 2) (by omega),
      inRole_lt c B x (k := 0 + 3) (by omega)]
    iintro ⟨⟨Hb, ⟨H0, H1, H2, H3, Ha⟩, F0, F1, F2, F3⟩, Hk⟩
    iapply (seq D c (startIn_wp D c B x 0 (hA.o1 0) (hA.o2 0) rfl)) $$ [H0 F0]
    · isplitl [H0]; · iexact H0
      iexact F0
    iintro %_ G0
    iapply (seq D c (startIn_wp D c B x 1 (hA.o1 1) (hA.o2 1) rfl)) $$ [H1 F1]
    · isplitl [H1]; · iexact H1
      iexact F1
    iintro %_ G1
    iapply (seq D c (startIn_wp D c B x 2 (hA.o1 2) (hA.o2 2) rfl)) $$ [H2 F2]
    · isplitl [H2]; · iexact H2
      iexact F2
    iintro %_ G2
    iapply (seq D c (startIn_wp D c B x 3 (hA.o1 3) (hA.o2 3) rfl)) $$ [H3 F3]
    · isplitl [H3]; · iexact H3
      iexact F3
    iintro %_ G3
    iapply Hk
    isplitl [Hb]; · iexact Hb
    isplitl [Ha]; · iexact Ha
    isplitl [G0]; · iexact G0
    isplitl [G1]; · iexact G1
    isplitl [G2]; · iexact G2
    iexact G3
  rw [show prologue B f (ahead B f K) = ahead B f K from dif_neg fun h => h0 (hA.c1.mp h), inHeld_pos c B x h0]
  by_cases h3 : t + 3 < 16
  · rw [above_succ _ h3]
    unfold ahead inStarted
    rw [dif_pos (hA.c2.mpr ⟨by omega, h3⟩), inRole_lt c B x h3]
    iintro ⟨⟨Hb, ⟨H3, Ha⟩, R0, R1, R2, F3⟩, Hk⟩
    iapply (seq D c (startIn_wp D c B x (t + 3) hA.o3 hA.o4 (hA.o5 h3))) $$ [H3 F3]
    · isplitl [H3]; · iexact H3
      iexact F3
    iintro %_ G3
    iapply Hk
    isplitl [Hb]; · iexact Hb
    isplitl [Ha]; · iexact Ha
    isplitl [R0]; · iexact R0
    isplitl [R1]; · iexact R1
    isplitl [R2]; · iexact R2
    iexact G3
  · unfold ahead inStarted
    rw [dif_neg fun h => h3 (hA.c2.mp h).2, inRole_ge c B x h3, above_end _ (by omega), above_end _ (by omega)]
    iintro ⟨HR, Hk⟩
    iapply Hk
    iexact HR

/-- What step `t` holds of the array read and the ring in once its block is in, apart from the block's slot. -/
def inRest (t : ℕ) : sProp 𝕄 :=
  iprop(below (home c B x) (t + 1) ∗ above (home c B x) (t + 4) ∗ inRole c B x (t + 1) ∗ inRole c B x (t + 2) ∗ inRole c B x (t + 3))

/-- What a step keeps of the input, with its block's slot free again, is what the next step starts from. -/
theorem inHeld_succ : iprop(inRest c B x t ∗ inFree c B t) ⊢ (inHeld c B x (t + 1) : sProp 𝕄) := by
  rw [inHeld_pos c B x (Nat.succ_ne_zero t), show t + 1 + 3 = t + 4 from rfl, inFree_add c B t]
  unfold inRest
  iintro ⟨⟨Hb, Ha, R1, R2, R3⟩, Hf⟩
  isplitl [Hb]; · iexact Hb
  isplitl [Ha]; · iexact Ha
  isplitl [R1]; · iexact R1
  isplitl [R2]; · iexact R2
  isplitl [R3]; · iexact R3
  iexact Hf

/-- What step `t` holds of the array written and the ring out once its slot is free. -/
def outReady (t : ℕ) : sProp 𝕄 :=
  iprop(below (result c B x g) (t - 2) ∗ above (blank c B) t ∗ outFree c B t ∗ outRole c B x g (t + 1) ∗ outRole c B x g (t + 2))

/-- Waiting for the copy out of three steps before, when there is one. -/
theorem leave (K : Prog (TpuEff nD τ sig (Elt F) Λ .tc) α) (Q : α → sProp 𝕄) (hA : f.At t) :
    iprop((outHeld c B x g t ∗ recorded c)
        ∗ ((outReady c B x g t ∗ recorded c) -∗ wp frame (wpE D Variants.none (c : Thread nD τ) none) Set.univ K Q))
      ⊢ wp frame (wpE D Variants.none (c : Thread nD τ) none) Set.univ (behind B f K) Q := by
  have hlt := hA.lt
  unfold outHeld outReady behind
  by_cases h3 : 3 ≤ t
  · rw [dif_pos (hA.c3.mpr h3), outRole_ge c B x g h3, show t - 2 = t - 3 + 1 from by omega, below_succ _ (t := t - 3) (by omega)]
    iintro ⟨⟨⟨Hb, Ha, R0, R1, R2⟩, HW⟩, Hk⟩
    iapply (seq D c (waitOut_wp D c B x g (t - 3) (hA.o9 h3) (hA.o11 h3) (hA.o10 h3))) $$ [R0 HW]
    · isplitl [R0]; · iexact R0
      iexact HW
    iintro %_ ⟨Hr, Hf, HW⟩
    iapply Hk
    isplitr [HW]
    · isplitl [Hr Hb]
      · isplitl [Hr]; · iexact Hr
        iexact Hb
      isplitl [Ha]; · iexact Ha
      isplitl [Hf]
      · have e : (outFree c B (t - 3) : sProp 𝕄) ⊢ outFree c B t := by
          rw [← outFree_add c B (t - 3), Nat.sub_add_cancel h3]
        iapply e $$ Hf
      isplitl [R1]; · iexact R1
      iexact R2
    · iexact HW
  · rw [dif_neg fun h => h3 (hA.c3.mp h), outRole_lt c B x g h3, show t - 2 = t - 3 from by omega]
    iintro ⟨H, Hk⟩
    iapply Hk
    iexact H

/-- The part of a step up to the load of its block: it reads the block, and frees the block's slot in. -/
theorem fetch_wp (ret : (S1x512x4096.Idx → Elt F .f32) → α) (hA : f.At t) :
    iprop(inHeld c B x t ∗ outHeld c B x g t ∗ recorded c)
      ⊢ (wp frame (wpE D Variants.none (c : Thread nD τ) none) Set.univ (fetch B f ret)
          fun r => iprop(⌜r = ret (lead (blk x t))⌝ ∗ inHeld c B x (t + 1) ∗ outReady c B x g t ∗ recorded c) : sProp 𝕄) := by
  unfold fetch
  iintro ⟨HI, HO, HW⟩
  iapply (arrive D c B x _ _ hA)
  isplitl [HI]; · iexact HI
  unfold inStarted
  rw [inRole_lt c B x hA.lt]
  iintro ⟨Hb, Ha, R0, R1, R2, R3⟩
  iapply (seq D c (waitIn_wp D c B x t hA.o6 hA.o7 hA.o8)) $$ [R0 HW]
  · isplitl [R0]; · iexact R0
    iexact HW
  iintro %_ ⟨⟨Hs, Hh⟩, Hv, HW⟩
  iapply (leave D c B x g _ _ hA)
  isplitl [HO HW]
  · isplitl [HO]; · iexact HO
    iexact HW
  iintro ⟨HO, HW⟩
  have hl := loadIn (hl := View.loadsAt_vmem numel_slot) D c B t hA.o12 f.b12 (blk x t)
  iapply (seq D c hl) $$ [Hs]
  · iexact Hs
  iintro %v ⟨%hv, Hs⟩
  iapply (le_wp_ret frame _ Set.univ _ _)
  isplitr
  · ipureintro; rw [hv]
  isplitr [HO HW]
  · iapply (inHeld_succ c B x)
    unfold inRest inFree
    rw [below_succ _ hA.lt]
    isplitr [Hs Hv]
    · isplitl [Hh Hb]
      · isplitl [Hh]; · iexact Hh
        iexact Hb
      isplitl [Ha]; · iexact Ha
      isplitl [R1]; · iexact R1
      isplitl [R2]; · iexact R2
      iexact R3
    · isplitl [Hs]; · iexists _; iexact Hs
      iexact Hv
  isplitl [HO]; · iexact HO
  iexact HW

/-- The end of a step: nothing, or on the last step the waits for the last three copies out. -/
theorem drain_wp (hA : f.At t) :
    iprop(outHeld c B x g (t + 1) ∗ recorded c)
      ⊢ (wp frame (wpE D Variants.none (c : Thread nD τ) none) Set.univ (drain B f (pure ⟨⟩))
          fun _ : PUnit => iprop((if t + 1 = 16 then outDone c B x g else outHeld c B x g (t + 1)) ∗ recorded c) : sProp 𝕄) := by
  unfold drain
  by_cases h : t = 15
  · subst h
    rw [dif_pos (hA.c4.mpr rfl), if_pos rfl]
    unfold outHeld outDone
    rw [outRole_ge c B x g (k := 15 + 1) (by omega), outRole_ge c B x g (k := 15 + 1 + 1) (by omega),
      outRole_ge c B x g (k := 15 + 1 + 2) (by omega), below_succ _ (t := 15) (by omega), below_succ _ (t := 14) (by omega),
      below_succ _ (t := 13) (by omega)]
    iintro ⟨⟨Hb, Ha, R0, R1, R2⟩, HW⟩
    iapply (seq D c (waitOut_wp D c B x g 13 (hA.o16 0) (hA.o17 0) rfl)) $$ [R0 HW]
    · isplitl [R0]; · iexact R0
      iexact HW
    iintro %_ ⟨H13, F13, HW⟩
    iapply (seq D c (waitOut_wp D c B x g 14 (hA.o16 1) (hA.o17 1) rfl)) $$ [R1 HW]
    · isplitl [R1]; · iexact R1
      iexact HW
    iintro %_ ⟨H14, F14, HW⟩
    iapply (seq D c (waitOut_wp D c B x g 15 (hA.o16 2) (hA.o17 2) rfl)) $$ [R2 HW]
    · isplitl [R2]; · iexact R2
      iexact HW
    iintro %_ ⟨H15, F15, HW⟩
    iapply (le_wp_ret frame _ Set.univ _ _)
    isplitr [HW]
    · isplitl [H15 H14 H13 Hb]
      · isplitl [H15]; · iexact H15
        isplitl [H14]; · iexact H14
        isplitl [H13]; · iexact H13
        iexact Hb
      isplitl [F15]; · iexact F15
      isplitl [F13]; · iexact F13
      iexact F14
    · iexact HW
  · rw [dif_neg fun h' => h (hA.c4.mp h'), if_neg (by omega)]
    iintro H
    iapply (le_wp_ret frame _ Set.univ _ _)
    iexact H

/-- The part of a step after its block is computed: it stores the block, frees nothing, and sends the block out. -/
theorem send_wp (w : S1x512x4096.Idx → Elt F .f32) (hw : w = lead (blk (fun i => g (x i)) t)) (hA : f.At t) :
    iprop(outReady c B x g t ∗ recorded c)
      ⊢ (wp frame (wpE D Variants.none (c : Thread nD τ) none) Set.univ (send B f w)
          fun _ => iprop((if t + 1 = 16 then outDone c B x g else outHeld c B x g (t + 1)) ∗ recorded c) : sProp 𝕄) := by
  subst hw
  unfold send outReady outFree
  rw [above_succ _ hA.lt]
  iintro ⟨⟨Hb, ⟨Hr, Ha⟩, ⟨⟨%Y, Hs⟩, Hv⟩, R1, R2⟩, HW⟩
  have hl := loadOut (hl := View.loadsAt_vmem numel_slot) D c B t hA.o13 f.b13 Y
  iapply (seq D c hl) $$ [Hs]
  · iexact Hs
  iintro %_ ⟨-, Hs⟩
  have hs := storeOut D c B t hA.o13 f.b13 (blk (fun i => g (x i)) t) (hx := View.stores_vmem_bits_univ numel_slot rfl) (hm := .inl rfl)
  iapply (seq D c hs) $$ [Hs]
  · iexists Y; iexact Hs
  iintro %_ Hs
  iapply (seq D c (startOut_wp D c B x g t hA.o14 hA.o15 hA.o8)) $$ [Hs Hr Hv]
  · isplitl [Hs]; · iexact Hs
    isplitl [Hr]; · iexact Hr
    iexact Hv
  iintro %_ HF
  iapply (drain_wp D c B x g hA)
  isplitr [HW]
  · unfold outHeld
    rw [outRole_ge c B x g (k := t + 1 + 2) (by omega), show t + 1 - 3 = t - 2 from by omega, show t + 1 + 2 - 3 = t from by omega,
      show t + 1 + 1 = t + 2 from rfl]
    isplitl [Hb]; · iexact Hb
    isplitl [Ha]; · iexact Ha
    isplitl [R1]; · iexact R1
    isplitl [R2]; · iexact R2
    iexact HF
  · iexact HW

/-- One step: what is held before it becomes what is held after it. `out` computes each element of the block from the
    same element of the block read, by `g`. -/
theorem step_wp (ret : (S1x512x4096.Idx → Elt F .f32) → α) (out : α → S1x512x4096.Idx → Elt F .f32)
    (hout : ∀ v, out (ret v) = fun j => g (v j)) (hA : f.At t) :
    iprop(held c B x g t ∗ recorded c)
      ⊢ (wp frame (wpE D Variants.none (c : Thread nD τ) none) Set.univ (step B f ret out)
          fun _ => iprop(held c B x g (t + 1) ∗ recorded c) : sProp 𝕄) := by
  unfold held step
  rw [if_neg (show t ≠ 16 from Nat.ne_of_lt hA.lt)]
  iintro ⟨⟨HI, HO⟩, HW⟩
  iapply (seq D c (fetch_wp D c B x g ret hA)) $$ [HI HO HW]
  · isplitl [HI]; · iexact HI
    isplitl [HO]; · iexact HO
    iexact HW
  iintro %r ⟨%hr, HI, HO, HW⟩
  have hw : out r = lead (blk (fun i => g (x i)) t) := by rw [hr, hout]; rfl
  have hs : iprop(outReady c B x g t ∗ recorded c)
      ⊢ iprop((∀ a : PUnit, iprop((if t + 1 = 16 then outDone c B x g else outHeld c B x g (t + 1)) ∗ recorded c)
          -∗ iprop(held c B x g (t + 1) ∗ recorded c))
        -∗ wp frame (wpE D Variants.none (c : Thread nD τ) none) Set.univ (send B f (out r)) fun _ => iprop(held c B x g (t + 1) ∗ recorded c)) :=
    (send_wp D c B x g (out r) hw hA).trans (wp_wand frame _ Set.univ)
  iapply hs $$ [HO HW]
  · isplitl [HO]; · iexact HO
    iexact HW
  iintro %_ ⟨HO, HW⟩
  unfold held
  isplitl [HI HO]
  · isplitl [HI]; · iexact HI
    iexact HO
  · iexact HW

end Cert.Pipe

end
-- ==== Proof.Ends.lean ====
/- The two ends of the pipelined walk: the whole buffers are what is held before the first step, and what is held after
   the last step is the whole buffers again, the array written holding the outcome of every element. -/
module

public import proofs.«01_k».proof.Proof.Step

@[expose] public section

set_option maxRecDepth 16384

noncomputable section

namespace Cert.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Owned

variable {nD : Nat} {τ : Topo} {sig : RefSig} {F : FTy → Type}

/-- The propositions over the machine the invariant is one of. -/
local notation "𝕄" => MT nD τ sig Unit (Elt F) ℕ (Pipeline.UD sig nD τ) ℕ

variable (c : Dev nD) (B : Bufs sig) (x : S8192x4096.Idx → Elt F .f32) (g : Elt F .f32 → Elt F .f32)

/-- Contents given rectangle by rectangle over disjoint rectangles are the parts of one array. -/
theorem glue {s : Shape} {T : Type} {V : Type} [Nonempty V] (r : T → Rect s)
    (hd : ∀ t t', t ≠ t' → Disjoint (r t).set (r t').set) (w : (t : T) → (r t).shape.Idx → V) :
    ∃ X : s.Idx → V, ∀ t, (fun j => X ((r t).emb j)) = w t := by
  have he : Function.Injective fun p : (Σ t, (r t).shape.Idx) => (r p.1).emb p.2 := by
    rintro ⟨t, j⟩ ⟨t', j'⟩ h
    by_cases ht : t = t'
    · subst ht
      exact congrArg (Sigma.mk t) ((r t).emb.injective h)
    · have h₁ : (r t).emb j ∈ (r t).set := by rw [← Rect.map_emb_univ]; exact Finset.mem_map_of_mem _ (Finset.mem_univ j)
      have h₂ : (r t).emb j ∈ (r t').set := by
        rw [show (r t).emb j = (r t').emb j' from h, ← Rect.map_emb_univ]; exact Finset.mem_map_of_mem _ (Finset.mem_univ j')
      exact absurd h₂ (Finset.disjoint_left.mp (hd t t' ht) h₁)
  exact ⟨Function.extend (fun p : (Σ t, (r t).shape.Idx) => (r p.1).emb p.2) (fun p => w p.1 p.2) fun _ => Classical.arbitrary V,
    fun t => funext fun j => he.extend_apply (fun p => w p.1 p.2) _ ⟨t, j⟩⟩

/-! ## The rows of blocks of an array -/

/-- The rectangle of the `k`-th block of rows. -/
abbrev rowRect (k : Fin 16) : Rect S8192x4096 := Rect.unit (s := S8192x4096) (rowOff k.val) S512x4096.size (inb_row k.val)

/-- The `k`-th block starts at row `512 k`. -/
theorem row_off (k : Fin 16) : rowOff k.val 0 = 512 * k.val := by
  show k.val % 16 * 512 = 512 * k.val
  rw [Nat.mod_eq_of_lt k.isLt, Nat.mul_comm]

/-- Two blocks share no element. -/
theorem row_disjoint (k k' : Fin 16) (h : k ≠ k') : Disjoint (rowRect k).set (rowRect k').set :=
  Ring.lead_disjoint (s := S8192x4096) (0 : Fin 2) 512 (fun k : Fin 16 => rowOff k.val) S512x4096.size (fun k => inb_row k.val) row_off rfl k k' h

/-- The blocks are the whole array. -/
theorem row_cover : Finset.univ.biUnion (fun k => (rowRect k).set) = Finset.univ :=
  Ring.lead_cover (s := S8192x4096) (0 : Fin 2) 512 (fun k : Fin 16 => rowOff k.val) S512x4096.size (fun k => inb_row k.val) row_off
    (fun k a ha => by fin_cases a <;> first | exact absurd rfl ha | rfl) rfl
    (fun a ha => by fin_cases a <;> first | exact absurd rfl ha | rfl) rfl

/-- An array held whole is each of its blocks held. -/
theorem rows_split (M : Memref sig .tc .hbm S8192x4096 .f32) (y : S8192x4096.Idx → Elt F .f32) :
    (owns (c : Thread nD τ) M fullShare y : sProp 𝕄)
      ⊢ bigSep Finset.univ fun k : Fin 16 => owns (c : Thread nD τ) (rowsAt M (rowOff k.val) (inb_row k.val)) fullShare (blk y k.val) :=
  owns_rects (c : Thread nD τ) M fullShare rowRect (fun _ _ => rfl) row_disjoint row_cover y

/-- An array's blocks, each held, are the array held whole. -/
theorem rows_join [∀ e, Nonempty (Elt F e)] (M : Memref sig .tc .hbm S8192x4096 .f32) (y : S8192x4096.Idx → Elt F .f32) :
    (bigSep Finset.univ fun k : Fin 16 => owns (c : Thread nD τ) (rowsAt M (rowOff k.val) (inb_row k.val)) fullShare (blk y k.val) : sProp 𝕄)
      ⊢ owns (c : Thread nD τ) M fullShare y :=
  owns_of_rects (c : Thread nD τ) M fullShare rowRect (fun _ _ => rfl) row_disjoint row_cover y

/-! ## The slots of a ring -/

section Slots

variable {n : ℕ} (hn : 0 < n) (M : Memref sig .tc .vmem ⟨3, ![n, 512, 4096]⟩ .f32)

/-- The rectangle of the `k`-th slot. -/
abbrev slotRect (k : Fin n) : Rect ⟨3, ![n, 512, 4096]⟩ :=
  Rect.unit (s := ⟨3, ![n, 512, 4096]⟩) (slotOff n k.val) S1x512x4096.size (inb_slot n hn k.val)

/-- The `k`-th slot is at `k`. -/
theorem slot_off (k : Fin n) : slotOff n k.val 0 = 1 * k.val := by
  show k.val % n = 1 * k.val
  rw [Nat.mod_eq_of_lt k.isLt, Nat.one_mul]

/-- Two slots share no element. -/
theorem slot_disjoint (k k' : Fin n) (h : k ≠ k') : Disjoint (slotRect hn k).set (slotRect hn k').set :=
  Ring.lead_disjoint (s := ⟨3, ![n, 512, 4096]⟩) (0 : Fin 3) 1 (fun k : Fin n => slotOff n k.val) S1x512x4096.size
    (fun k => inb_slot n hn k.val) slot_off rfl k k' h

/-- The slots are the whole ring. -/
theorem slot_cover : Finset.univ.biUnion (fun k => (slotRect hn k).set) = Finset.univ :=
  Ring.lead_cover (s := ⟨3, ![n, 512, 4096]⟩) (0 : Fin 3) 1 (fun k : Fin n => slotOff n k.val) S1x512x4096.size
    (fun k => inb_slot n hn k.val) slot_off
    (fun k a ha => by fin_cases a <;> first | exact absurd rfl ha | rfl) rfl
    (fun a ha => by fin_cases a <;> first | exact absurd rfl ha | rfl) (Nat.mul_one n)

/-- A ring held whole at anything is each of its slots held at something. -/
theorem slots_split : (iprop(∃ w, owns (c : Thread nD τ) M fullShare w) : sProp 𝕄)
    ⊢ bigSep Finset.univ fun k : Fin n => iprop(∃ w, owns (c : Thread nD τ) (slotAt M (slotOff n k.val) (inb_slot n hn k.val)) fullShare w) := by
  iintro ⟨%w, H⟩
  have h₁ : (owns (c : Thread nD τ) M fullShare w : sProp 𝕄) ⊢ _ := owns_rects (c : Thread nD τ) M fullShare (slotRect hn) (fun _ _ => rfl) (slot_disjoint hn) (slot_cover hn) w
  have h₂ : (bigSep Finset.univ fun k : Fin n => owns (c : Thread nD τ) (M.slice (slotRect hn k) (fun _ => rfl)) fullShare (fun j => w ((slotRect hn k).emb j)) : sProp 𝕄)
      ⊢ bigSep Finset.univ fun k : Fin n => iprop(∃ w, owns (c : Thread nD τ) (slotAt M (slotOff n k.val) (inb_slot n hn k.val)) fullShare w) :=
    bigSep_mono fun k _ => by
      have e : (owns (c : Thread nD τ) (M.slice (slotRect hn k) (fun _ => rfl)) fullShare (fun j => w ((slotRect hn k).emb j)) : sProp 𝕄)
          ⊢ owns (c : Thread nD τ) (slotAt M (slotOff n k.val) (inb_slot n hn k.val)) fullShare
            (fun j => w ((slotRect hn k).emb (Shape.reshapeEquiv sq_slot.numel_eq j))) :=
        (equiv_iff.mpr (owns_squeeze c (M.slice (slotRect hn k) (fun _ => rfl)) sq_slot (fun j => w ((slotRect hn k).emb j)))).2
      exact e.trans (exists_intro _)
  iapply (h₁.trans h₂) $$ H

/-- A ring's slots, each held at something, are the ring held whole at something. -/
theorem slots_join [∀ e, Nonempty (Elt F e)] :
    (bigSep Finset.univ fun k : Fin n => iprop(∃ w, owns (c : Thread nD τ) (slotAt M (slotOff n k.val) (inb_slot n hn k.val)) fullShare w) : sProp 𝕄)
    ⊢ iprop(∃ w, owns (c : Thread nD τ) M fullShare w) := by
  refine (bigSep_exists_pi Finset.univ _).trans ?_
  iintro ⟨%w, H⟩
  obtain ⟨X, hX⟩ := glue (slotRect hn) (slot_disjoint hn) fun k => lead (w k)
  iexists X
  have h₂ : (bigSep Finset.univ fun k : Fin n => owns (c : Thread nD τ) (slotAt M (slotOff n k.val) (inb_slot n hn k.val)) fullShare (w k) : sProp 𝕄)
      ⊢ bigSep Finset.univ fun k : Fin n => owns (c : Thread nD τ) (M.slice (slotRect hn k) (fun _ => rfl)) fullShare (fun j => X ((slotRect hn k).emb j)) :=
    bigSep_mono fun k _ => by
      rw [hX k]
      exact slot_open c M _ _ (w k)
  iapply (h₂.trans (owns_of_rects (c : Thread nD τ) M fullShare (slotRect hn) (fun _ _ => rfl) (slot_disjoint hn) (slot_cover hn) X)) $$ H

end Slots

/-- All the memory the walk runs over: the array read at `x`, the array written at `y` or at anything, both rings at anything, and
    every semaphore at zero. -/
def whole (y : sProp 𝕄) : sProp 𝕄 :=
  iprop(owns (c : Thread nD τ) B.X fullShare x ∗ y
    ∗ (∃ w, owns (c : Thread nD τ) B.IB fullShare w) ∗ (∃ w, owns (c : Thread nD τ) B.OB fullShare w)
    ∗ (semVal ((c : Thread nD τ), SemLoc.dma (isem B 0)) 0 ∗ semVal ((c : Thread nD τ), SemLoc.dma (isem B 1)) 0
      ∗ semVal ((c : Thread nD τ), SemLoc.dma (isem B 2)) 0 ∗ semVal ((c : Thread nD τ), SemLoc.dma (isem B 3)) 0)
    ∗ (semVal ((c : Thread nD τ), SemLoc.dma (osem B 0)) 0 ∗ semVal ((c : Thread nD τ), SemLoc.dma (osem B 1)) 0
      ∗ semVal ((c : Thread nD τ), SemLoc.dma (osem B 2)) 0))

/-- The same with the array written held otherwise. -/
theorem whole_mono {y y' : sProp 𝕄} (h : y ⊢ y') : whole c B x y ⊢ whole c B x y' := by
  unfold whole
  exact sep_mono_right (sep_mono_left h)

/-- Four and four, paired. -/
theorem pair4 (a b d e a' b' d' e' : sProp 𝕄) :
    iprop((a ∗ b ∗ d ∗ e) ∗ (a' ∗ b' ∗ d' ∗ e')) = iprop((a ∗ a') ∗ (b ∗ b') ∗ (d ∗ d') ∗ (e ∗ e')) := by
  have h₁ : iprop((a ∗ b ∗ d ∗ e) ∗ (a' ∗ b' ∗ d' ∗ e')) ⊢ iprop((a ∗ a') ∗ (b ∗ b') ∗ (d ∗ d') ∗ (e ∗ e')) := by
    iintro ⟨⟨S0, S1, S2, S3⟩, M0, M1, M2, M3⟩
    isplitl [S0 M0]; · isplitl [S0]; · iexact S0
                       iexact M0
    isplitl [S1 M1]; · isplitl [S1]; · iexact S1
                       iexact M1
    isplitl [S2 M2]; · isplitl [S2]; · iexact S2
                       iexact M2
    isplitl [S3]; · iexact S3
    iexact M3
  have h₂ : iprop((a ∗ a') ∗ (b ∗ b') ∗ (d ∗ d') ∗ (e ∗ e')) ⊢ iprop((a ∗ b ∗ d ∗ e) ∗ (a' ∗ b' ∗ d' ∗ e')) := by
    iintro ⟨⟨S0, M0⟩, ⟨S1, M1⟩, ⟨S2, M2⟩, S3, M3⟩
    isplitl [S0 S1 S2 S3]
    · isplitl [S0]; · iexact S0
      isplitl [S1]; · iexact S1
      isplitl [S2]; · iexact S2
      iexact S3
    · isplitl [M0]; · iexact M0
      isplitl [M1]; · iexact M1
      isplitl [M2]; · iexact M2
      iexact M3
  exact equiv_iff.mp ⟨h₁, h₂⟩

/-- Three and three, paired. -/
theorem pair3 (a b d a' b' d' : sProp 𝕄) :
    iprop((a ∗ b ∗ d) ∗ (a' ∗ b' ∗ d')) = iprop((a ∗ a') ∗ (b ∗ b') ∗ (d ∗ d')) := by
  have h₁ : iprop((a ∗ b ∗ d) ∗ (a' ∗ b' ∗ d')) ⊢ iprop((a ∗ a') ∗ (b ∗ b') ∗ (d ∗ d')) := by
    iintro ⟨⟨S0, S1, S2⟩, M0, M1, M2⟩
    isplitl [S0 M0]; · isplitl [S0]; · iexact S0
                       iexact M0
    isplitl [S1 M1]; · isplitl [S1]; · iexact S1
                       iexact M1
    isplitl [S2]; · iexact S2
    iexact M2
  have h₂ : iprop((a ∗ a') ∗ (b ∗ b') ∗ (d ∗ d')) ⊢ iprop((a ∗ b ∗ d) ∗ (a' ∗ b' ∗ d')) := by
    iintro ⟨⟨S0, M0⟩, ⟨S1, M1⟩, S2, M2⟩
    isplitl [S0 S1 S2]
    · isplitl [S0]; · iexact S0
      isplitl [S1]; · iexact S1
      iexact S2
    · isplitl [M0]; · iexact M0
      isplitl [M1]; · iexact M1
      iexact M2
  exact equiv_iff.mp ⟨h₁, h₂⟩

/-- The ring in, its slots free, is the ring and its semaphores. -/
theorem ringIn [∀ e, Nonempty (Elt F e)] :
    iprop((∃ w, owns (c : Thread nD τ) B.IB fullShare w)
      ∗ (semVal ((c : Thread nD τ), SemLoc.dma (isem B 0)) 0 ∗ semVal ((c : Thread nD τ), SemLoc.dma (isem B 1)) 0
        ∗ semVal ((c : Thread nD τ), SemLoc.dma (isem B 2)) 0 ∗ semVal ((c : Thread nD τ), SemLoc.dma (isem B 3)) 0))
      = (iprop(inFree c B 0 ∗ inFree c B 1 ∗ inFree c B 2 ∗ inFree c B 3) : sProp 𝕄) := by
  have e : (iprop(∃ w, owns (c : Thread nD τ) B.IB fullShare w) : sProp 𝕄)
      = iprop((∃ w, owns (c : Thread nD τ) (islot B 0) fullShare w) ∗ (∃ w, owns (c : Thread nD τ) (islot B 1) fullShare w) ∗ (∃ w, owns (c : Thread nD τ) (islot B 2) fullShare w) ∗ (∃ w, owns (c : Thread nD τ) (islot B 3) fullShare w)) :=
    (equiv_iff.mp ⟨slots_split c (by decide) B.IB, slots_join c (by decide) B.IB⟩).trans
      ((bigSep_eq_bigSepL_of_eq [0, 1, 2, 3] (by decide) (by decide) _).trans rfl)
  rw [e]
  exact pair4 _ _ _ _ _ _ _ _

/-- The ring out, its slots free, is the ring and its semaphores. -/
theorem ringOut [∀ e, Nonempty (Elt F e)] :
    iprop((∃ w, owns (c : Thread nD τ) B.OB fullShare w)
      ∗ (semVal ((c : Thread nD τ), SemLoc.dma (osem B 0)) 0 ∗ semVal ((c : Thread nD τ), SemLoc.dma (osem B 1)) 0
        ∗ semVal ((c : Thread nD τ), SemLoc.dma (osem B 2)) 0))
      = (iprop(outFree c B 0 ∗ outFree c B 1 ∗ outFree c B 2) : sProp 𝕄) := by
  have e : (iprop(∃ w, owns (c : Thread nD τ) B.OB fullShare w) : sProp 𝕄)
      = iprop((∃ w, owns (c : Thread nD τ) (oslot B 0) fullShare w) ∗ (∃ w, owns (c : Thread nD τ) (oslot B 1) fullShare w) ∗ (∃ w, owns (c : Thread nD τ) (oslot B 2) fullShare w)) :=
    (equiv_iff.mp ⟨slots_split c (by decide) B.OB, slots_join c (by decide) B.OB⟩).trans
      ((bigSep_eq_bigSepL_of_eq [0, 1, 2] (by decide) (by decide) _).trans rfl)
  rw [e]
  exact pair3 _ _ _ _ _ _

/-- The parts of the region's loan, in the order the walk's memory has them. -/
theorem regroup (i b g m0 m1 m2 m3 m4 m5 m6 r w : sProp 𝕄) :
    iprop((i ∗ b) ∗ g ∗ (m0 ∗ m1 ∗ m2 ∗ m3 ∗ m4 ∗ m5 ∗ m6) ∗ r ∗ w)
      = iprop((r ∗ w ∗ i ∗ b ∗ (m0 ∗ m1 ∗ m2 ∗ m3) ∗ (m4 ∗ m5 ∗ m6)) ∗ g) := by
  have h₁ : iprop((i ∗ b) ∗ g ∗ (m0 ∗ m1 ∗ m2 ∗ m3 ∗ m4 ∗ m5 ∗ m6) ∗ r ∗ w)
      ⊢ iprop((r ∗ w ∗ i ∗ b ∗ (m0 ∗ m1 ∗ m2 ∗ m3) ∗ (m4 ∗ m5 ∗ m6)) ∗ g) := by
    iintro ⟨⟨HI, HB⟩, Hg, ⟨M0, M1, M2, M3, M4, M5, M6⟩, HX, HO⟩
    isplitr [Hg]; swap; · iexact Hg
    isplitl [HX]; · iexact HX
    isplitl [HO]; · iexact HO
    isplitl [HI]; · iexact HI
    isplitl [HB]; · iexact HB
    isplitl [M0 M1 M2 M3]
    · isplitl [M0]; · iexact M0
      isplitl [M1]; · iexact M1
      isplitl [M2]; · iexact M2
      iexact M3
    · isplitl [M4]; · iexact M4
      isplitl [M5]; · iexact M5
      iexact M6
  have h₂ : iprop((r ∗ w ∗ i ∗ b ∗ (m0 ∗ m1 ∗ m2 ∗ m3) ∗ (m4 ∗ m5 ∗ m6)) ∗ g)
      ⊢ iprop((i ∗ b) ∗ g ∗ (m0 ∗ m1 ∗ m2 ∗ m3 ∗ m4 ∗ m5 ∗ m6) ∗ r ∗ w) := by
    iintro ⟨⟨HX, HO, HI, HB, ⟨M0, M1, M2, M3⟩, M4, M5, M6⟩, Hg⟩
    isplitl [HI HB]
    · isplitl [HI]; · iexact HI
      iexact HB
    isplitl [Hg]; · iexact Hg
    isplitr [HX HO]; swap
    · isplitl [HX]; · iexact HX
      iexact HO
    isplitl [M0]; · iexact M0
    isplitl [M1]; · iexact M1
    isplitl [M2]; · iexact M2
    isplitl [M3]; · iexact M3
    isplitl [M4]; · iexact M4
    isplitl [M5]; · iexact M5
    iexact M6
  exact equiv_iff.mp ⟨h₁, h₂⟩

/-- Before the first step: the array to be written is at anything. -/
theorem held_start [∀ e, Nonempty (Elt F e)] :
    (whole c B x (iprop(∃ w, owns (c : Thread nD τ) B.O fullShare w)) : sProp 𝕄) ⊢ held c B x g 0 := by
  unfold held whole
  rw [if_neg (by decide), inHeld_zero, below_zero, above_zero]
  unfold outHeld
  rw [outRole_lt c B x g (k := 0) (by decide), outRole_lt c B x g (k := 0 + 1) (by decide), outRole_lt c B x g (k := 0 + 2) (by decide),
    show (0 : ℕ) - 3 = 0 from rfl, below_zero, above_zero, ← ringIn c B, ← ringOut c B]
  have hX : (owns (c : Thread nD τ) B.X fullShare x : sProp 𝕄) ⊢ bigSep Finset.univ fun k : Fin 16 => home c B x k.val :=
    rows_split c B.X x
  have hO (w : S8192x4096.Idx → Elt F .f32) : (owns (c : Thread nD τ) B.O fullShare w : sProp 𝕄)
      ⊢ bigSep Finset.univ fun k : Fin 16 => blank c B k.val :=
    (rows_split c B.O w).trans (bigSep_mono fun k _ => (exists_intro (Φ := fun w => owns (c : Thread nD τ) (orow B k.val) fullShare w) (blk w k.val) : _ ⊢ _))
  iintro ⟨HX, ⟨%w, HO⟩, HI, HB, MI, MB⟩
  isplitl [HX HI MI]
  · isplitr; · iempintro
    isplitl [HX]; · iapply hX $$ HX
    isplitl [HI]; · iexact HI
    iexact MI
  · isplitr; · iempintro
    isplitl [HO]; · iapply (hO w) $$ HO
    isplitl [HB]; · iexact HB
    iexact MB

/-- After the last step: the array written holds the outcome of every element of the array read. -/
theorem held_end [∀ e, Nonempty (Elt F e)] :
    (held c B x g 16 : sProp 𝕄) ⊢ whole c B x (owns (c : Thread nD τ) B.O fullShare fun i => g (x i)) := by
  unfold held whole
  rw [if_pos rfl, inHeld_pos c B x (by decide), below_end _ (le_refl 16), above_end _ (by decide),
    inRole_ge c B x (k := 16) (by decide), inRole_ge c B x (k := 16 + 1) (by decide), inRole_ge c B x (k := 16 + 2) (by decide)]
  have e (k : ℕ) : (inFree c B (k + 4 + 4 + 4 + 4) : sProp 𝕄) = inFree c B k := by simp only [inFree_add]
  rw [show (inFree c B 16 : sProp 𝕄) = inFree c B 0 from e 0, show (inFree c B (16 + 1) : sProp 𝕄) = inFree c B 1 from e 1,
    show (inFree c B (16 + 2) : sProp 𝕄) = inFree c B 2 from e 2, show (inFree c B (16 + 3) : sProp 𝕄) = inFree c B 3 from e 3]
  unfold outDone
  rw [below_end _ (le_refl 16)]
  have hX : (bigSep Finset.univ fun k : Fin 16 => home c B x k.val : sProp 𝕄) ⊢ owns (c : Thread nD τ) B.X fullShare x :=
    rows_join c B.X x
  have hO : (bigSep Finset.univ fun k : Fin 16 => result c B x g k.val : sProp 𝕄) ⊢ owns (c : Thread nD τ) B.O fullShare fun i => g (x i) :=
    rows_join c B.O fun i => g (x i)
  have hI : (iprop(inFree c B 0 ∗ inFree c B 1 ∗ inFree c B 2 ∗ inFree c B 3) : sProp 𝕄) ⊢ _ := (equiv_iff.mpr (ringIn c B)).2
  have hB : (iprop(outFree c B 0 ∗ outFree c B 1 ∗ outFree c B 2) : sProp 𝕄) ⊢ _ := (equiv_iff.mpr (ringOut c B)).2
  iintro ⟨⟨HX, -, HI⟩, HO, HB⟩
  ihave HI := hI $$ HI
  ihave HB := hB $$ HB
  icases HI with ⟨HI, MI⟩
  icases HB with ⟨HB, MB⟩
  isplitl [HX]; · iapply hX $$ HX
  isplitl [HO]; · iapply hO $$ HO
  isplitl [HI]; · iexact HI
  isplitl [HB]; · iexact HB
  isplitl [MI]; · iexact MI
  iexact MB

end Cert.Pipe

end
-- ==== Proof.Launch.lean ====
/- The walk as a pipeline's body: a pipeline without windows whose body is the walk's step at each of its sixteen points, lent
   the walk's memory, runs to the end, leaves the array written at the outcome of every element of the array read, and
   every semaphore at zero. -/
module

public import proofs.«01_k».proof.Proof.Ends
public import Idealize.ShloMosaic.Lib.Pipeline.FrameValue

@[expose] public section

set_option maxRecDepth 16384

noncomputable section

namespace Cert.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Owned

variable {nD : Nat} {τ : Topo} {sig : RefSig} {F : FTy → Type} {Λ₀ : Labels}

/-- The propositions over the machine the invariant is one of. -/
local notation "𝕄" => MT nD τ sig Unit (Elt F) ℕ (Pipeline.UD sig nD τ) ℕ

variable (B : Bufs sig) (x : Dev nD → S8192x4096.Idx → Elt F .f32) (g : Elt F .f32 → Elt F .f32)

/-- The invariant: what the walk holds, and the generator register, which nothing uses. -/
def Inv (c : Dev nD) (t : ℕ) : sProp 𝕄 := iprop(held c B (x c) g t ∗ (∃ r, prngReg c r))

/-- The walk's memory, the array written at `y`, and the generator register. -/
def Lent (c : Dev nD) (y : S8192x4096.Idx → Elt F .f32) : sProp 𝕄 :=
  iprop(whole c B (x c) (owns (c : Thread nD τ) B.O fullShare y) ∗ (∃ r, prngReg c r))

/-- The loan starts the walk, whatever the array written holds. -/
theorem inv_start [∀ e, Nonempty (Elt F e)] (c : Dev nD) (y : S8192x4096.Idx → Elt F .f32) : (Lent B x c y : sProp 𝕄) ⊢ Inv B x g c 0 :=
  sep_mono_left ((whole_mono c B (x c) (exists_intro (Φ := fun w => owns (c : Thread nD τ) B.O fullShare w) y)).trans
    (held_start c B (x c) g))

/-- The walk ends in the loan, the array written at every element's outcome. -/
theorem inv_end [∀ e, Nonempty (Elt F e)] (c : Dev nD) : (Inv B x g c 16 : sProp 𝕄) ⊢ Lent B x c fun i => g (x c i) :=
  sep_mono_left (held_end c B (x c) g)

variable (cfgs : Fin 1 → Cfg sig Λ₀) (hW : ∀ p, Fin (cfgs p).W → False)

/-- The proof data of the one pipeline, which has no windows: the invariant before each point, nothing owed. -/
def dats (p : Fin 1) (c : Dev nD) : Dat τ (Elt F) Unit ℕ (Pipeline.UD sig nD τ) ℕ (cfgs p) c where
  A w := (hW p w).elim
  after w _ := (hW p w).elim
  Φ t := Inv B x g c t.val
  q _ := fullShare
  owed _ := 0

variable (defs₀ : Defs nD τ sig (Elt F) Λ₀) {α : Type}
  (f : Fin (cfgs 0).N → Offs) (ret : Fin (cfgs 0).N → (S1x512x4096.Idx → Elt F .f32) → α) (out : α → S1x512x4096.Idx → Elt F .f32)

/-- One point: the walk's step. -/
theorem point (hf : ∀ t, (f t).At t.val) (hout : ∀ t v, out (ret t v) = fun j => g (v j)) (c : Dev nD) (t : Fin (cfgs 0).N) :
    iprop((dats (τ := τ) B x g cfgs hW 0 c).Φ t.castSucc ∗ (dats (τ := τ) B x g cfgs hW 0 c).owesAt () t.castSucc)
      ⊢ wp frame (wpE defs₀ Variants.none (c : Thread nD τ) none) Set.univ (step B (f t) (ret t) out)
        (fun _ => iprop((dats (τ := τ) B x g cfgs hW 0 c).Φ t.succ ∗ (dats (τ := τ) B x g cfgs hW 0 c).owesAt () t.succ)) := by
  have hs : iprop(held c B (x c) g t.val ∗ recorded c)
      ⊢ wp frame (wpE defs₀ Variants.none (c : Thread nD τ) none) Set.univ (step B (f t) (ret t) out)
        fun _ => iprop(held c B (x c) g (t.val + 1) ∗ recorded c) :=
    step_wp defs₀ c B (x c) g (ret t) out (hout t) (hf t)
  rw [show (dats (τ := τ) B x g cfgs hW 0 c).Φ t.castSucc = Inv B x g c t.val from rfl,
    show (dats (τ := τ) B x g cfgs hW 0 c).Φ t.succ = Inv B x g c (t.val + 1) from rfl]
  unfold Inv Dat.owesAt Pipeline.owesWithin
  rw [show (dats (τ := τ) B x g cfgs hW 0 c).owed t.castSucc = 0 from rfl, show (dats (τ := τ) B x g cfgs hW 0 c).owed t.succ = 0 from rfl]
  refine BIBase.Entails.trans ?_ ((sep_mono_left hs).trans ((wp_frame_r (R := iprop(∃ r, prngReg c r)) frame
    (wpE defs₀ Variants.none (c : Thread nD τ) none) Set.univ).trans (wp_mono frame _ Set.univ fun _ => ?_)))
  · unfold recorded
    iintro ⟨⟨HΦ, Hg⟩, ⟨%W, -, HW⟩⟩
    isplitr [Hg]; swap; · iexact Hg
    isplitl [HΦ]; · iexact HΦ
    iexists W; iexact HW
  · unfold recorded
    iintro ⟨⟨HΦ, ⟨%W, HW⟩⟩, Hg⟩
    isplitr [HW]
    · isplitl [HΦ]; · iexact HΦ
      iexact Hg
    iexists W; isplitr; · ipureintro; exact fun _ _ => Or.inl trivial
    iexact HW

include hW in
/-- There are no windows. -/
theorem no_windows (Φ : Fin (cfgs 0).W → sProp 𝕄) : bigSep Finset.univ Φ = iprop(emp) := by
  rw [Finset.eq_empty_of_forall_notMem (s := (Finset.univ : Finset (Fin (cfgs 0).W))) fun w => (hW 0 w).elim, bigSep_empty]; rfl

/-- The body at a point does what the walk's step does. -/
def RunsAs (c : Dev nD) (t : Fin (cfgs 0).N) : Prop := ∀ P : sProp 𝕄,
  wp frame (wpE defs₀ Variants.none (c : Thread nD τ) none) Set.univ (step B (f t) (ret t) out) (fun _ => P)
    ⊢ wp frame (wpE defs₀ Variants.none (c : Thread nD τ) none) Set.univ
      (defs₀ .tc (cfgs 0).body ((cfgs 0).bodyArgs t ((cfgs 0).slots t))) (fun _ => P)

/-- Every point takes the invariant before it to the invariant before the next. -/
theorem body_obligation (hf : ∀ t, (f t).At t.val) (hout : ∀ t v, out (ret t v) = fun j => g (v j))
    (hbody : ∀ c t, RunsAs B cfgs defs₀ f ret out c t) (c : Dev nD) :
    BodyObligation (dats (τ := τ) B x g cfgs hW 0 c) defs₀ Variants.none () Set.univ := fun t => by
  rw [no_windows cfgs hW]
  have h₁ : iprop((dats (τ := τ) B x g cfgs hW 0 c).Φ t.castSucc ∗ (dats (τ := τ) B x g cfgs hW 0 c).owesAt () t.castSucc ∗ emp)
      ⊢ iprop((dats (τ := τ) B x g cfgs hW 0 c).Φ t.castSucc ∗ (dats (τ := τ) B x g cfgs hW 0 c).owesAt () t.castSucc) := by
    iintro ⟨H₁, H₂, -⟩
    isplitl [H₁]; · iexact H₁
    iexact H₂
  have h₂ : iprop((dats (τ := τ) B x g cfgs hW 0 c).Φ t.succ ∗ (dats (τ := τ) B x g cfgs hW 0 c).owesAt () t.succ)
      ⊢ iprop((dats (τ := τ) B x g cfgs hW 0 c).Φ t.succ ∗ (dats (τ := τ) B x g cfgs hW 0 c).owesAt () t.succ ∗ emp) := by
    iintro ⟨H₁, H₂⟩
    isplitl [H₁]; · iexact H₁
    isplitl [H₂]; · iexact H₂
    iempintro
  refine h₁.trans ((point B x g cfgs hW defs₀ f ret out hf hout c t).trans ((hbody c t _).trans (wp_mono frame _ Set.univ fun _ => ?_)))
  rw [no_windows cfgs hW]
  exact h₂

variable {K : Type} [Fintype K] [DecidableEq K] (sems : K → SemLoc sig) (Hs Rs : Finset (Ref sig .tc))

/-- The buffers as the run finds them. -/
abbrev V (m : (ℓ : Loc nD τ sig) → Buf (Elt F) ℓ) (c : Dev nD) (b : Ref sig .tc) : Buf (Elt F) ((c : Thread nD τ).loc b) :=
  m ((c : Thread nD τ).loc b)

/-- The run, in the region's words: `G` is what the buffers written end at. -/
theorem launch [∀ e, Nonempty (Elt F e)] [Infinite ℕ] (kit : Pipeline.LaunchFacts (nD := nD) (τ := τ) cfgs 0)
    (ho : Pipeline.OwnSemFacts (cfgs 0).spec sems) (hH : Hs ⊆ Pipeline.restRefs sig (cfgs 0).spec)
    (hR : Rs ⊆ Pipeline.restRefs sig (cfgs 0).spec \ Hs)
    (m : (ℓ : Loc nD τ sig) → Buf (Elt F) ℓ) (ρ : Dev nD → PrngReg)
    (main : Dev nD → Prog (TpuEff nD τ sig (Elt F) (Pipeline.Sig Λ₀ (Fin 1) fun p => ((cfgs p).toPCfg (Val := Elt F)).Adm) .tc) PUnit)
    (hmain : Pipeline.HMain (Ix := Unit) (Name := ℕ) (U := Pipeline.UD sig nD τ) (Lvl := ℕ) cfgs 0 defs₀ Variants.none m main (V m))
    (hN : (cfgs 0).N = 16) (hf : ∀ t, (f t).At t.val) (hout : ∀ t v, out (ret t v) = fun j => g (v j))
    (hbody : ∀ c t, RunsAs B cfgs defs₀ f ret out c t)
    (G : (c : Dev nD) → (b : Ref sig .tc) → Buf (Elt F) ((c : Thread nD τ).loc b))
    (y : Dev nD → S8192x4096.Idx → Elt F .f32)
    (hin : ∀ c, Pipeline.ΦDRG sems (cfgs 0).spec Hs Rs (V m) (V m) c
      = (Lent B x c (y c) : sProp 𝕄))
    (hend : ∀ c, Pipeline.ΦDRG sems (cfgs 0).spec Hs Rs (V m) G c
      = (Lent B x c (fun i => g (x c i)) : sProp 𝕄)) :
    θ_run (Pipeline.defs (fun q => Cfg.toPCfg (Val := Elt F) (cfgs q)) defs₀) (onTc (τ := τ) main) (s₀ m ρ)
      (fun r => Pipeline.FramePostRG cfgs (dats (τ := τ) B x g cfgs hW) 0 Rs (V m) G r ∧ r.2.sem = fun _ => 0) :=
  Pipeline.θ_run_frame_dmaRG (Q' := _) cfgs (dats (τ := τ) B x g cfgs hW) (0 : Fin 1) kit sems defs₀ Variants.none ho Hs Rs hH hR m ρ main
    (hbody := fun c => (body_obligation B x g cfgs hW defs₀ f ret out hf hout hbody c).loose)
    (hshare := fun c w => (hW 0 w).elim) (howed := fun _ _ => rfl) (V := V m) (hmain := hmain)
    (hA := fun _ w => (hW 0 w).elim) (G := G)
    (hin := fun c => by
      rw [hin c]
      exact inv_start B x g c (y c))
    (hout := fun c => by
      rw [hend c]
      have h : (Inv B x g c (Fin.last (cfgs 0).N).val : sProp 𝕄) ⊢ Lent B x c fun i => g (x c i) := by
        rw [Fin.val_last, hN]
        exact inv_end B x g c
      exact h)

end Cert.Pipe

end
-- ==== Proof.Offsets.lean ====
/- The conditions and offsets of the body at each grid point are those of the walk's step. -/
module

public import proofs.«01_k».proof.Proof.Pipe
public import proofs.«01_k».proof.Proof.Gen.Kernel.Skeleton
public import proofs.«01_k».proof.Proof.Gen.Kernel.Points

@[expose] public section

set_option maxRecDepth 65536

noncomputable section

namespace Cert.Kernel.Hand

open Cert.Kernel Cert.Kernel.Gen Cert.Pipe
open Idealize.ShloMosaic Idealize.ShloMosaic.TcCoe

/-- The body's conditions and offsets at a grid point. -/
def offs (i : grid0.Coords) : Offs where
  c1 := k0_cond1 i
  c2 := k0_cond2 i
  c3 := k0_cond3 i
  c4 := k0_cond4 i
  o1 := k0_off1
  b1 := k0_off1_inb i
  o2 := k0_off2
  b2 := k0_off2_inb i
  o3 := k0_off3 i
  b3 := k0_off3_inb i
  o4 := k0_off4 i
  b4 := k0_off4_inb i
  o5 := k0_off5 i
  b5 := k0_off5_inb i
  o6 := k0_off6 i
  b6 := k0_off6_inb i
  o7 := k0_off7 i
  b7 := k0_off7_inb i
  o8 := k0_off8 i
  b8 := k0_off8_inb i
  o9 := k0_off9 i
  b9 := k0_off9_inb i
  o10 := k0_off10 i
  b10 := k0_off10_inb i
  o11 := k0_off11 i
  b11 := k0_off11_inb i
  o12 := k0_off12 i
  b12 := k0_off12_inb i
  o13 := k0_off13 i
  b13 := k0_off13_inb i
  o14 := k0_off14 i
  b14 := k0_off14_inb i
  o15 := k0_off15 i
  b15 := k0_off15_inb i
  o16 := k0_off16
  b16 := k0_off16_inb i
  o17 := k0_off17
  b17 := k0_off17_inb i

/-- At the `t`-th point they are the `t`-th step's. -/
theorem offs_at (t : Fin 16) : (offs (grid0.coords t)).At t.val where
  lt := t.isLt
  c1 := (show ∀ t : Fin 16, k0_cond1 (grid0.coords t) = 1#1 ↔ t.val = 0 by decide +kernel) t
  c2 := (show ∀ t : Fin 16, k0_cond2 (grid0.coords t) = 1#1 ↔ 1 ≤ t.val ∧ t.val + 3 < 16 by decide +kernel) t
  c3 := (show ∀ t : Fin 16, k0_cond3 (grid0.coords t) = 1#1 ↔ 3 ≤ t.val by decide +kernel) t
  c4 := (show ∀ t : Fin 16, k0_cond4 (grid0.coords t) = 1#1 ↔ t.val = 15 by decide +kernel) t
  o1 := show ∀ r : Fin 4, k0_off1 (BitVec.ofNat 32 r.val) = semOff 4 r.val by decide +kernel
  o2 := show ∀ r : Fin 4, k0_off2 (BitVec.ofNat 32 r.val) = slotOff 4 r.val by decide +kernel
  o3 := (show ∀ t : Fin 16, k0_off3 (grid0.coords t) = semOff 4 (t.val + 3) by decide +kernel) t
  o4 := (show ∀ t : Fin 16, k0_off4 (grid0.coords t) = slotOff 4 (t.val + 3) by decide +kernel) t
  o5 := (show ∀ t : Fin 16, t.val + 3 < 16 → k0_off5 (grid0.coords t) = rowOff (t.val + 3) by decide +kernel) t
  o6 := (show ∀ t : Fin 16, k0_off6 (grid0.coords t) = semOff 4 t.val by decide +kernel) t
  o7 := (show ∀ t : Fin 16, k0_off7 (grid0.coords t) = slotOff 4 t.val by decide +kernel) t
  o8 := (show ∀ t : Fin 16, k0_off8 (grid0.coords t) = rowOff t.val by decide +kernel) t
  o9 := (show ∀ t : Fin 16, 3 ≤ t.val → k0_off9 (grid0.coords t) = semOff 3 (t.val - 3) by decide +kernel) t
  o10 := (show ∀ t : Fin 16, 3 ≤ t.val → k0_off10 (grid0.coords t) = rowOff (t.val - 3) by decide +kernel) t
  o11 := (show ∀ t : Fin 16, 3 ≤ t.val → k0_off11 (grid0.coords t) = slotOff 3 (t.val - 3) by decide +kernel) t
  o12 := (show ∀ t : Fin 16, k0_off12 (grid0.coords t) = slotOff 4 t.val by decide +kernel) t
  o13 := (show ∀ t : Fin 16, k0_off13 (grid0.coords t) = slotOff 3 t.val by decide +kernel) t
  o14 := (show ∀ t : Fin 16, k0_off14 (grid0.coords t) = semOff 3 t.val by decide +kernel) t
  o15 := (show ∀ t : Fin 16, k0_off15 (grid0.coords t) = slotOff 3 t.val by decide +kernel) t
  o16 := show ∀ r : Fin 3, k0_off16 (BitVec.ofNat 32 (13 + r.val)) = semOff 3 (13 + r.val) by decide +kernel
  o17 := show ∀ r : Fin 3, k0_off17 (BitVec.ofNat 32 (13 + r.val)) = slotOff 3 (13 + r.val) by decide +kernel

end Cert.Kernel.Hand

end
-- ==== Proof.KernelLogIdealRun.lean ====
/- The program with the logarithm taken as an operation and its constant named: its body is the walk's step, its outcome at each element, and its run — the array written ends at the
   outcome of every element of the array read, which is unchanged, and every semaphore ends at zero. -/
module

public import proofs.«01_k».proof.Proof.Launch
public import proofs.«01_k».proof.Proof.Offsets
public import proofs.«01_k».proof.Proof.Gen.KernelLogIdeal.Skeleton
public import proofs.«01_k».proof.Proof.Gen.KernelLogIdeal.Launch
public import proofs.«01_k».proof.Proof.Gen.KernelLogIdeal.Points

@[expose] public section

set_option maxRecDepth 65536

noncomputable section

namespace Cert.KernelLogIdeal.Hand

open Cert.KernelLogIdeal Cert.KernelLogIdeal.Gen Cert.Pipe Cert.Owned
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The propositions over the machine the invariant is one of. -/
local notation "𝕄" => MT nD τ sig Unit (Elt F) ℕ (Pipeline.UD sig nD τ) ℕ

/-- The buffers and semaphores the body moves between. -/
def bufs : Bufs sig where
  X := Memref.whole main_arg0
  O := Memref.whole main_v0
  IB := Memref.whole cc0_scratch0
  OB := Memref.whole cc0_scratch1
  SI := cc0_scratch2
  SO := cc0_scratch3

/-- What the body makes of one element. -/
def val (a : F .f32) : F .f32 :=
  FloatOps.maximumf (FloatOps.ofBits .f32 0x00000000#32) (FloatOps.minimumf a
    (FloatOps.subf (FloatOps.addf (FloatOps.log (FloatOps.addf (FloatOps.mulf (FloatOps.ofBits .f32 0x3FC00000#32) a)
      (FloatOps.ofBits .f32 0x3F800000#32))) (FloatOps.ofBits .f32 0x40C00000#32)) (Named.named κ "log_c" 0x40135D8E#32)))

/-- What the body computes of the slot it loads, up to the store. -/
def ret (i : grid0.Coords) (v : S1x512x4096.Idx → F .f32) :
    Σ' (arg0 : BitVec 32) (v21 : BitVec 32) (v24 : FVec F S512x4096 .f32) (v31 : FVec F S512x4096 .f32), FVec F S512x4096 .f32 :=
  ⟨BitVec.ofNat 32 (i 0).val, Scalar.remsi (BitVec.ofNat 32 (i 0).val) 3#32, k0_pay2 v, k0_pay3 v, k0_pay4⟩

/-- What the body stores of what it computed. -/
def out (r : Σ' (arg0 : BitVec 32) (v21 : BitVec 32) (v24 : FVec F S512x4096 .f32) (v31 : FVec F S512x4096 .f32), FVec F S512x4096 .f32) :
    S1x512x4096.Idx → F .f32 := k0_pay1 r.2.2.1 r.2.2.2.1 r.2.2.2.2

/-- The body stores the outcome of each element of what it loads. -/
theorem out_ret (i : grid0.Coords) (v : S1x512x4096.Idx → F .f32) : out (ret i v) = fun j => val (v j) := by
  funext j
  have e : v (Shape.reshapeEquiv shapeCasts_S1x512x4096_S512x4096 (Shape.reshapeEquiv shapeCasts_S512x4096_S1x512x4096 j)) = v j := by
    rw [Shape.reshapeEquiv_reshapeEquiv, Shape.reshapeEquiv_self]
  exact congrArg val e

/-- The body is the walk's step. -/
theorem body_eq (i : grid0.Coords) (B : Bufs sig) (h1 : B.X.IsWhole) (h2 : B.O.IsWhole) (h3 : B.IB.IsWhole) (h4 : B.OB.IsWhole) :
    cc0__pipelined_kernel (F := F) i B.X h1 B.O h2 B.IB h3 B.OB h4 B.SI B.SO = step B (Cert.Kernel.Hand.offs i) (ret i) out := by
  rw [cc0__pipelined_kernel_eq_skeleton]
  unfold cc0__pipelined_kernel_skel
  rw [k0_part1_eq_skeleton]
  rfl

variable (m : (ℓ : Loc nD τ sig) → Buf (Elt F) ℓ) (ρ : Dev nD → PrngReg)

/-- The array read, as the run finds it. -/
abbrev X (c : Dev nD) : S8192x4096.Idx → F .f32 := m ((c : Thread nD τ).loc main_arg0)

/-- The array written, as the run leaves it. -/
def G (c : Dev nD) : (b : Ref sig .tc) → Buf (Elt F) ((c : Thread nD τ).loc b) :=
  Function.update (V m c) main_v0 (fun i => val (X m c i))

/-- The program is its one region: nothing runs before or after it on the host. -/
theorem hmain : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

/-- The semaphores the body waits at: the ring in's four and the ring out's three. -/
abbrev sems : Fin 7 → SemLoc sig := fun j => SemLoc.dma j
/-- The seven semaphores are apart, and are all of the region's own. -/
theorem semFacts : Pipeline.OwnSemFacts cfg0.spec sems := by decide
/-- The region's own semaphores at zero are the seven at zero. -/
theorem sems_eq (c : Dev nD) :
    (Pipeline.ownSems0 (Ix := Unit) (Name := ℕ) (U := Pipeline.UD sig nD τ) (Lvl := ℕ) (Val := Elt F) (τ := τ) sems c : sProp 𝕄)
      = iprop(semVal ((c : Thread nD τ), SemLoc.dma 0) 0 ∗ semVal ((c : Thread nD τ), SemLoc.dma 1) 0 ∗ semVal ((c : Thread nD τ), SemLoc.dma 2) 0
          ∗ semVal ((c : Thread nD τ), SemLoc.dma 3) 0 ∗ semVal ((c : Thread nD τ), SemLoc.dma 4) 0 ∗ semVal ((c : Thread nD τ), SemLoc.dma 5) 0
          ∗ semVal ((c : Thread nD τ), SemLoc.dma 6) 0) := by
  rw [Pipeline.ownSems0_eq_of_list c sems [0, 1, 2, 3, 4, 5, 6] (by decide) (by decide)]; rfl

/-- The array read. -/
def Hs : Finset (Ref sig .tc) := {main_arg0}
/-- The array written. -/
def Rs : Finset (Ref sig .tc) := {main_v0}
/-- The array read is not of a window. -/
theorem Hs_sub : Hs ⊆ Pipeline.restRefs sig cfg0.spec := by decide
/-- The array written is not of a window, and is not the array read. -/
theorem Rs_sub : Rs ⊆ Pipeline.restRefs sig cfg0.spec \ Hs := by decide

/-- What the region lends, part by part, the array written at `W`. -/
theorem lent_eq (c : Dev nD) (W : (c : Dev nD) → (b : Ref sig .tc) → Buf (Elt F) ((c : Thread nD τ).loc b)) :
    (Pipeline.ΦDRG sems cfg0.spec Hs Rs (V m) W c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f))
        ∗ (∃ r, prngReg c r)
        ∗ (semVal ((c : Thread nD τ), SemLoc.dma 0) 0 ∗ semVal ((c : Thread nD τ), SemLoc.dma 1) 0 ∗ semVal ((c : Thread nD τ), SemLoc.dma 2) 0
          ∗ semVal ((c : Thread nD τ), SemLoc.dma 3) 0 ∗ semVal ((c : Thread nD τ), SemLoc.dma 4) 0 ∗ semVal ((c : Thread nD τ), SemLoc.dma 5) 0
          ∗ semVal ((c : Thread nD τ), SemLoc.dma 6) 0)
        ∗ (((c : Thread nD τ).loc main_arg0) ↦{fullShare} V m c main_arg0)
        ∗ (((c : Thread nD τ).loc main_v0) ↦{fullShare} W c main_v0)) := by
  rw [Pipeline.ΦDRG_eq, sems_eq, scopedRest0_eq]
  unfold Pipeline.routed
  rw [BI.bigSep_eq_bigSepL_of_eq (S := Hs) [main_arg0] (by decide) (by decide), BI.bigSep_eq_bigSepL_of_eq (S := Rs) [main_v0] (by decide) (by decide)]
  rfl

/-- What the region lends is the walk's memory and the generator register: the array written at `W`. -/
theorem lent_whole (c : Dev nD) (W : (c : Dev nD) → (b : Ref sig .tc) → Buf (Elt F) ((c : Thread nD τ).loc b)) :
    (Pipeline.ΦDRG sems cfg0.spec Hs Rs (V m) W c : sProp 𝕄) = Lent bufs (X m) c (W c main_v0) := by
  rw [lent_eq]
  unfold Lent whole bufs
  simp only [owns_whole]
  exact regroup _ _ _ _ _ _ _ _ _ _ _ _

/-- The body at a point is the walk's step. -/
theorem runs (c : Dev nD) (t : Fin cfg0.N) : RunsAs bufs cfgs (defs₀ (F := F)) (fun t => Cert.Kernel.Hand.offs (grid0.coords t)) (fun t => ret (grid0.coords t)) out c t := fun P => by
  have hb : bodyAt0 (F := F) t = step bufs (Cert.Kernel.Hand.offs (grid0.coords t)) (ret (grid0.coords t)) out := body_eq (grid0.coords t) bufs _ _ _ _
  have hd : defs₀ (F := F) .tc (cfgs 0).body ((cfgs 0).bodyArgs t ((cfgs 0).slots t)) = bodyAt0 t := by
    unfold defs₀; rw [Defs.onTc_tc]
  rw [hd, hb]

set_option backward.isDefEq.respectTransparency.types false in
/-- The run, in the region's words. -/
theorem run_main : θ_run defs (onTc (τ := τ) (main (F := F))) (s₀ m ρ)
    (fun r => Pipeline.FramePostRG cfgs (dats bufs (X m) val cfgs fun _ w => w.elim0) 0 Rs (V m) (G m) r ∧ r.2.sem = fun _ => 0) :=
  launch bufs (X m) val cfgs (fun _ w => w.elim0) defs₀ (fun t => Cert.Kernel.Hand.offs (grid0.coords t)) (fun t => ret (grid0.coords t)) out sems Hs Rs
    launch0 semFacts Hs_sub Rs_sub m ρ main (hmain m) N_0 (fun t => Cert.Kernel.Hand.offs_at t) (fun t => out_ret (grid0.coords t)) runs (G m)
    (fun c => V m c main_v0) (fun c => lent_whole m c (V m))
    (fun c => (lent_whole m c (G m)).trans (by rw [show G m c main_v0 = fun i => val (X m c i) from Function.update_self _ _ _]))

/-- The run: the array written ends at every element's outcome, the array read unchanged, every semaphore at zero. -/
theorem run : θ_run defs (onTc (τ := τ) (main (F := F))) ⟨m, fun _ => 0, ρ⟩ (fun r => (∀ c : Dev nD,
      r.2.mem ((c.tc : Thread nD τ).loc main_v0) = (fun i => val (X m c i))
      ∧ r.2.mem ((c.tc : Thread nD τ).loc main_arg0) = m ((c.tc : Thread nD τ).loc main_arg0))
      ∧ r.2.sem = fun _ => 0) :=
  (θ_run defs _ _).mono (fun _ h => ⟨fun c => ⟨(h.1.written c (Finset.mem_singleton_self main_v0)).trans (Function.update_self _ _ _),
    (h.1.toR c).2 main_arg0 (Finset.mem_sdiff.mpr ⟨Pipeline.mem_restRefs_of main_arg0 (by decide) (by decide), by decide⟩)⟩, h.2⟩) (run_main m ρ)

end Cert.KernelLogIdeal.Hand

end
-- ==== Proof.Values.lean ====
/- What the programs compute of one element: the reference's operations and the kernel's, read as the two forms of
   Proof/Scalar.lean. -/
module

public import proofs.«01_k».proof.Proof.Scalar
public import proofs.«01_k».proof.Proof.KernelLogIdealRun
public import Idealize.ShloMosaic.PureOps.IdealRules
public import Idealize.ShloMosaic.Lib.IdealHost

@[expose] public section

noncomputable section

namespace Cert.Values

open Idealize.ShloMosaic

/-- The word of `1.5` denotes three halves. -/
theorem word_slope : Ideal.ofBits .f32 0x3FC00000#32 = ((3 / 2 : ℝ) : EReal) := by
  simp [Ideal.ofBits, Ideal.ieee, -EReal.coe_mul]; norm_num

/-- The word of `1.0` denotes one. -/
theorem word_one : Ideal.ofBits .f32 0x3F800000#32 = ((1 : ℝ) : EReal) := by
  simp [Ideal.ofBits, Ideal.ieee, -EReal.coe_mul]; norm_num

/-- The word of `6.0` denotes six. -/
theorem word_six : Ideal.ofBits .f32 0x40C00000#32 = ((6 : ℝ) : EReal) := by
  simp [Ideal.ofBits, Ideal.ieee, -EReal.coe_mul]; norm_num

/-- The word of `10.0` denotes ten. -/
theorem word_ten : Ideal.ofBits .f32 0x41200000#32 = ((10 : ℝ) : EReal) := by
  simp [Ideal.ofBits, Ideal.ieee, -EReal.coe_mul]; norm_num

/-- The constant named `log_c` denotes the logarithm of ten. -/
theorem named_log : Named.named (F := Ideal) Cert.KernelLogIdeal.κ "log_c" (φ := .f32) 0x40135D8E#32
    = ((Real.log 10 : ℝ) : EReal) :=
  IdealRules.named_const.ideal_named_scalar _ _ _ _ rfl

/-- The kernel's outcome of one element is the clamped form. -/
theorem kernel_val (a : EReal) : Cert.KernelLogIdeal.Hand.val (F := Ideal) a = Cert.Scalar.clamped a := by
  unfold Cert.KernelLogIdeal.Hand.val Cert.Scalar.clamped Cert.Scalar.tail
  rw [named_log]
  simp only [Ideal.maximumf_def, Ideal.minimumf_def, Ideal.subf_def, Ideal.addf_def, Ideal.mulf_def, Ideal.log_def,
    Ideal.ofBits_def, word_slope, word_one, word_six, Ideal.ofBits_zero_f32]

/-- The clipped input: zero at zero, and the larger of that and zero. -/
def clip (a : EReal) : EReal :=
  FloatOps.maximumf (F := Ideal) (φ := .f32) (FloatOps.ofBits .f32 0x00000000#32)
    (Scalar.select (FloatOps.cmpf (F := Ideal) (φ := .f32) .oeq a (FloatOps.ofBits .f32 0x00000000#32))
      (FloatOps.ofBits (F := Ideal) .f32 0x00000000#32) a)

/-- The reference's operations on one element. -/
def refVal (a : EReal) : EReal :=
  Scalar.select (FloatOps.cmpf (F := Ideal) (φ := .f32) .oge (clip a) (FloatOps.ofBits .f32 0x40C00000#32))
    (FloatOps.subf (F := Ideal) (φ := .f32)
      (FloatOps.addf (FloatOps.hostUnary .log
          (FloatOps.addf (FloatOps.mulf (FloatOps.ofBits .f32 0x3FC00000#32) (clip a)) (FloatOps.ofBits .f32 0x3F800000#32)))
        (FloatOps.ofBits .f32 0x40C00000#32))
      (FloatOps.hostUnary (F := Ideal) .log (FloatOps.ofBits .f32 0x41200000#32)))
    (clip a)

/-- A selection by the bit of a decidable proposition is the choice by that proposition. -/
theorem select_ofBool {α : Type} (p : Prop) [Decidable p] (a b : α) :
    Scalar.select (BitVec.ofBool (decide p)) a b = if p then a else b := by
  by_cases h : p <;> simp [Scalar.select, h]

/-- The clipped input is the larger of zero and the input. -/
theorem clip_eq (a : EReal) : clip a = max 0 a := by
  have e : clip a = max (Ideal.ofBits .f32 0x00000000#32)
      (Scalar.select (BitVec.ofBool (decide (a = Ideal.ofBits .f32 0x00000000#32))) (Ideal.ofBits .f32 0x00000000#32) a) := rfl
  rw [e, select_ofBool, Ideal.ofBits_zero_f32]
  by_cases h : a = 0
  · rw [if_pos h, h]
  · rw [if_neg h]

/-- The reference's outcome of one element is the branched form. -/
theorem refVal_eq (a : EReal) : refVal a = Cert.Scalar.branched a := by
  have e : refVal a = Scalar.select (BitVec.ofBool (decide (Ideal.ofBits .f32 0x40C00000#32 ≤ clip a)))
      (Ideal.log (Ideal.ofBits .f32 0x3FC00000#32 * clip a + Ideal.ofBits .f32 0x3F800000#32)
        + Ideal.ofBits .f32 0x40C00000#32 - Ideal.log (Ideal.ofBits .f32 0x41200000#32)) (clip a) := rfl
  have h10 : Ideal.log ((10 : ℝ) : EReal) = ((Real.log 10 : ℝ) : EReal) := by
    rw [Ideal.log_coe, if_neg (by norm_num)]
  rw [e, select_ofBool, clip_eq, word_slope, word_one, word_six, word_ten, h10]
  rfl

/-- Kernel and reference make the same of every extended real. -/
theorem val_eq (a : EReal) : Cert.KernelLogIdeal.Hand.val (F := Ideal) a = refVal a := by
  rw [kernel_val, refVal_eq, Cert.Scalar.clamped_eq]

end Cert.Values

end
-- ==== Proof.KernelRun.lean ====
/- The exact program: its body is the walk's step, its outcome at each element, and its run — the array written ends at the
   outcome of every element of the array read, which is unchanged, and every semaphore ends at zero. -/
module

public import proofs.«01_k».proof.Proof.Launch
public import proofs.«01_k».proof.Proof.Offsets
public import proofs.«01_k».proof.Proof.Gen.Kernel.Skeleton
public import proofs.«01_k».proof.Proof.Gen.Kernel.Launch
public import proofs.«01_k».proof.Proof.Gen.Kernel.Points

@[expose] public section

set_option maxRecDepth 65536

noncomputable section

namespace Cert.Kernel.Hand

open Cert.Kernel Cert.Kernel.Gen Cert.Pipe Cert.Owned
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The propositions over the machine the invariant is one of. -/
local notation "𝕄" => MT nD τ sig Unit (Elt F) ℕ (Pipeline.UD sig nD τ) ℕ

/-- The buffers and semaphores the body moves between. -/
def bufs : Bufs sig where
  X := Memref.whole main_arg0
  O := Memref.whole main_v0
  IB := Memref.whole cc0_scratch0
  OB := Memref.whole cc0_scratch1
  SI := cc0_scratch2
  SO := cc0_scratch3

/-- What the body makes of one element. -/
def val (a : F .f32) : F .f32 :=
  FloatOps.maximumf (FloatOps.ofBits .f32 0x00000000#32) (FloatOps.minimumf a
    (FloatOps.addf (FloatOps.mulf (FloatOps.sitofp .f32 (BitOps.toBits (FloatOps.addf (FloatOps.mulf (FloatOps.ofBits .f32 0x3FC00000#32) a)
      (FloatOps.ofBits .f32 0x3F800000#32)))) (FloatOps.ofBits .f32 0x33B17218#32)) (FloatOps.ofBits .f32 0xC2A89ADE#32)))

/-- What the body computes of the slot it loads, up to the store. -/
def ret (i : grid0.Coords) (v : S1x512x4096.Idx → F .f32) :
    Σ' (arg0 : BitVec 32) (v21 : BitVec 32) (v24 : FVec F S512x4096 .f32) (v32 : FVec F S512x4096 .f32), F .f32 :=
  ⟨BitVec.ofNat 32 (i 0).val, Scalar.remsi (BitVec.ofNat 32 (i 0).val) 3#32, k0_pay2 v, k0_pay3 v, Scalar.ofBits .f32 0xC2A89ADE#32⟩

/-- What the body stores of what it computed. -/
def out (r : Σ' (arg0 : BitVec 32) (v21 : BitVec 32) (v24 : FVec F S512x4096 .f32) (v32 : FVec F S512x4096 .f32), F .f32) :
    S1x512x4096.Idx → F .f32 := k0_pay1 r.2.2.1 r.2.2.2.1 r.2.2.2.2

/-- The body stores the outcome of each element of what it loads. -/
theorem out_ret (i : grid0.Coords) (v : S1x512x4096.Idx → F .f32) : out (ret i v) = fun j => val (v j) := by
  funext j
  have e : v (Shape.reshapeEquiv shapeCasts_S1x512x4096_S512x4096 (Shape.reshapeEquiv shapeCasts_S512x4096_S1x512x4096 j)) = v j := by
    rw [Shape.reshapeEquiv_reshapeEquiv, Shape.reshapeEquiv_self]
  exact congrArg val e

/-- The body is the walk's step. -/
theorem body_eq (i : grid0.Coords) (B : Bufs sig) (h1 : B.X.IsWhole) (h2 : B.O.IsWhole) (h3 : B.IB.IsWhole) (h4 : B.OB.IsWhole) :
    cc0__pipelined_kernel (F := F) i B.X h1 B.O h2 B.IB h3 B.OB h4 B.SI B.SO = step B (offs i) (ret i) out := by
  rw [cc0__pipelined_kernel_eq_skeleton]
  unfold cc0__pipelined_kernel_skel
  rw [k0_part1_eq_skeleton]
  rfl

variable (m : (ℓ : Loc nD τ sig) → Buf (Elt F) ℓ) (ρ : Dev nD → PrngReg)

/-- The array read, as the run finds it. -/
abbrev X (c : Dev nD) : S8192x4096.Idx → F .f32 := m ((c : Thread nD τ).loc main_arg0)

/-- The array written, as the run leaves it. -/
def G (c : Dev nD) : (b : Ref sig .tc) → Buf (Elt F) ((c : Thread nD τ).loc b) :=
  Function.update (V m c) main_v0 (fun i => val (X m c i))

/-- The program is its one region: nothing runs before or after it on the host. -/
theorem hmain : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

/-- The semaphores the body waits at: the ring in's four and the ring out's three. -/
abbrev sems : Fin 7 → SemLoc sig := fun j => SemLoc.dma j
/-- The seven semaphores are apart, and are all of the region's own. -/
theorem semFacts : Pipeline.OwnSemFacts cfg0.spec sems := by decide
/-- The region's own semaphores at zero are the seven at zero. -/
theorem sems_eq (c : Dev nD) :
    (Pipeline.ownSems0 (Ix := Unit) (Name := ℕ) (U := Pipeline.UD sig nD τ) (Lvl := ℕ) (Val := Elt F) (τ := τ) sems c : sProp 𝕄)
      = iprop(semVal ((c : Thread nD τ), SemLoc.dma 0) 0 ∗ semVal ((c : Thread nD τ), SemLoc.dma 1) 0 ∗ semVal ((c : Thread nD τ), SemLoc.dma 2) 0
          ∗ semVal ((c : Thread nD τ), SemLoc.dma 3) 0 ∗ semVal ((c : Thread nD τ), SemLoc.dma 4) 0 ∗ semVal ((c : Thread nD τ), SemLoc.dma 5) 0
          ∗ semVal ((c : Thread nD τ), SemLoc.dma 6) 0) := by
  rw [Pipeline.ownSems0_eq_of_list c sems [0, 1, 2, 3, 4, 5, 6] (by decide) (by decide)]; rfl

/-- The array read. -/
def Hs : Finset (Ref sig .tc) := {main_arg0}
/-- The array written. -/
def Rs : Finset (Ref sig .tc) := {main_v0}
/-- The array read is not of a window. -/
theorem Hs_sub : Hs ⊆ Pipeline.restRefs sig cfg0.spec := by decide
/-- The array written is not of a window, and is not the array read. -/
theorem Rs_sub : Rs ⊆ Pipeline.restRefs sig cfg0.spec \ Hs := by decide

/-- What the region lends, part by part, the array written at `W`. -/
theorem lent_eq (c : Dev nD) (W : (c : Dev nD) → (b : Ref sig .tc) → Buf (Elt F) ((c : Thread nD τ).loc b)) :
    (Pipeline.ΦDRG sems cfg0.spec Hs Rs (V m) W c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f))
        ∗ (∃ r, prngReg c r)
        ∗ (semVal ((c : Thread nD τ), SemLoc.dma 0) 0 ∗ semVal ((c : Thread nD τ), SemLoc.dma 1) 0 ∗ semVal ((c : Thread nD τ), SemLoc.dma 2) 0
          ∗ semVal ((c : Thread nD τ), SemLoc.dma 3) 0 ∗ semVal ((c : Thread nD τ), SemLoc.dma 4) 0 ∗ semVal ((c : Thread nD τ), SemLoc.dma 5) 0
          ∗ semVal ((c : Thread nD τ), SemLoc.dma 6) 0)
        ∗ (((c : Thread nD τ).loc main_arg0) ↦{fullShare} V m c main_arg0)
        ∗ (((c : Thread nD τ).loc main_v0) ↦{fullShare} W c main_v0)) := by
  rw [Pipeline.ΦDRG_eq, sems_eq, scopedRest0_eq]
  unfold Pipeline.routed
  rw [BI.bigSep_eq_bigSepL_of_eq (S := Hs) [main_arg0] (by decide) (by decide), BI.bigSep_eq_bigSepL_of_eq (S := Rs) [main_v0] (by decide) (by decide)]
  rfl

/-- What the region lends is the walk's memory and the generator register: the array written at `W`. -/
theorem lent_whole (c : Dev nD) (W : (c : Dev nD) → (b : Ref sig .tc) → Buf (Elt F) ((c : Thread nD τ).loc b)) :
    (Pipeline.ΦDRG sems cfg0.spec Hs Rs (V m) W c : sProp 𝕄) = Lent bufs (X m) c (W c main_v0) := by
  rw [lent_eq]
  unfold Lent whole bufs
  simp only [owns_whole]
  exact regroup _ _ _ _ _ _ _ _ _ _ _ _

/-- The body at a point is the walk's step. -/
theorem runs (c : Dev nD) (t : Fin cfg0.N) : RunsAs bufs cfgs (defs₀ (F := F)) (fun t => offs (grid0.coords t)) (fun t => ret (grid0.coords t)) out c t := fun P => by
  have hb : bodyAt0 (F := F) t = step bufs (offs (grid0.coords t)) (ret (grid0.coords t)) out := body_eq (grid0.coords t) bufs _ _ _ _
  have hd : defs₀ (F := F) .tc (cfgs 0).body ((cfgs 0).bodyArgs t ((cfgs 0).slots t)) = bodyAt0 t := by
    unfold defs₀; rw [Defs.onTc_tc]
  rw [hd, hb]

set_option backward.isDefEq.respectTransparency.types false in
/-- The run, in the region's words. -/
theorem run_main : θ_run defs (onTc (τ := τ) (main (F := F))) (s₀ m ρ)
    (fun r => Pipeline.FramePostRG cfgs (dats bufs (X m) val cfgs fun _ w => w.elim0) 0 Rs (V m) (G m) r ∧ r.2.sem = fun _ => 0) :=
  launch bufs (X m) val cfgs (fun _ w => w.elim0) defs₀ (fun t => offs (grid0.coords t)) (fun t => ret (grid0.coords t)) out sems Hs Rs
    launch0 semFacts Hs_sub Rs_sub m ρ main (hmain m) N_0 (fun t => offs_at t) (fun t => out_ret (grid0.coords t)) runs (G m)
    (fun c => V m c main_v0) (fun c => lent_whole m c (V m))
    (fun c => (lent_whole m c (G m)).trans (by rw [show G m c main_v0 = fun i => val (X m c i) from Function.update_self _ _ _]))

/-- The run: the array written ends at every element's outcome, the array read unchanged, every semaphore at zero. -/
theorem run : θ_run defs (onTc (τ := τ) (main (F := F))) ⟨m, fun _ => 0, ρ⟩ (fun r => (∀ c : Dev nD,
      r.2.mem ((c.tc : Thread nD τ).loc main_v0) = (fun i => val (X m c i))
      ∧ r.2.mem ((c.tc : Thread nD τ).loc main_arg0) = m ((c.tc : Thread nD τ).loc main_arg0))
      ∧ r.2.sem = fun _ => 0) :=
  (θ_run defs _ _).mono (fun _ h => ⟨fun c => ⟨(h.1.written c (Finset.mem_singleton_self main_v0)).trans (Function.update_self _ _ _),
    (h.1.toR c).2 main_arg0 (Finset.mem_sdiff.mpr ⟨Pipeline.mem_restRefs_of main_arg0 (by decide) (by decide), by decide⟩)⟩, h.2⟩) (run_main m ρ)

end Cert.Kernel.Hand

end
-- ==== Proof.lean ====
/- The claim: each program's frame, the kernel's values against its formula bit for bit, and the values with the
   logarithm taken as an operation against the reference over the extended reals. -/
module

public import proofs.«01_k».proof.Defs
public import proofs.«01_k».proof.Proof.Values
public import proofs.«01_k».proof.Proof.KernelRun
public import proofs.«01_k».proof.Proof.KernelLogRun
public import proofs.«01_k».proof.Proof.KernelLogIdealRun
public import proofs.«01_k».proof.Proof.Gen.Kernel
public import proofs.«01_k».proof.Proof.Gen.KernelLog
public import proofs.«01_k».proof.Proof.Gen.KernelLogIdeal
public import proofs.«01_k».proof.Proof.Gen.Pointwise
public import proofs.«01_k».proof.Proof.Gen.Pointwise.Run
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel terminates without fault, keeps its argument and leaves every counter at zero. -/
theorem frame_kernel : Cert.quiescent_Kernel := fun m ρ _ =>
  (θ_run Cert.Kernel.defs _ _).mono (fun _ h => ⟨fun c => (h.1 c).2, h.2⟩) (Cert.Kernel.Hand.run (F := Bits) m ρ)

/-- The formula on the host terminates and keeps its argument; it has no semaphore. -/
theorem frame_pointwise : Cert.quiescent_Pointwise := fun m ρ _ =>
  (θ_run Cert.Pointwise.defs _ _).mono (fun r h => ⟨fun c => (h c).2, sem_eq_zero_of_no_sems (by decide) r.2⟩)
    (Cert.Pointwise.Value.run (F := Bits) m ρ)

/-- The kernel with the logarithm as an operation terminates, keeps its argument and leaves every counter at zero. -/
theorem frame_log : Cert.quiescent_KernelLog := fun m ρ _ =>
  (θ_run Cert.KernelLog.defs _ _).mono (fun _ h => ⟨fun c => (h.1 c).2, h.2⟩) (Cert.KernelLog.Hand.run (F := Bits) m ρ)

/-- The same over the extended reals. -/
theorem frame_logIdeal : Cert.quiescent_KernelLogIdeal := fun m ρ _ =>
  (θ_run Cert.KernelLogIdeal.defs _ _).mono (fun _ h => ⟨fun c => (h.1 c).2, h.2⟩)
    (Cert.KernelLogIdeal.Hand.run (F := Ideal) m ρ)

/-- The reference over the extended reals terminates and keeps its argument; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's array is, bit for bit, the formula's at every element. -/
theorem bitexact : Cert.bitexact_Kernel_Pointwise := fun m ρ m' ρ' _ hag =>
  ⟨fun c i => Cert.Kernel.Hand.val (F := Bits) (Cert.Kernel.Hand.X m c i),
    (θ_run Cert.Kernel.defs _ _).mono (fun _ h => h.1) (Cert.Kernel.Hand.run (F := Bits) m ρ),
    (θ_run Cert.Pointwise.defs _ _).mono
      (fun _ h c => ⟨(h c).1.trans (by rw [hag c]; rfl), (h c).2⟩)
      (Cert.Pointwise.Value.run (F := Bits) m' ρ')⟩

/-- The one rewrite: the constant named `log_c` is the logarithm of ten. -/
theorem preserves : Cert.preserves_KernelLog_KernelLogIdeal :=
  IdealRules.named_const.statement Cert.KernelLogIdeal.κ "log_c" .f32 0x40135D8E#32 ((Real.log 10 : ℝ) : EReal) rfl

/-- Over the extended reals the kernel's array is the reference's at every element. -/
theorem algebraic : Cert.algebraic_KernelLogIdeal_ReferenceIdeal := fun m ρ m' ρ' _ hag =>
  ⟨fun c i => Cert.KernelLogIdeal.Hand.val (F := Ideal) (Cert.KernelLogIdeal.Hand.X m c i),
    (θ_run Cert.KernelLogIdeal.defs _ _).mono (fun _ h => h.1) (Cert.KernelLogIdeal.Hand.run (F := Ideal) m ρ),
    (θ_run Cert.ReferenceIdeal.defs _ _).mono
      (fun _ h c => ⟨(h c).1.trans (by rw [hag c]; funext i; exact (Cert.Values.val_eq _).symm), (h c).2⟩)
      (Cert.ReferenceIdeal.Value.run (F := Ideal) m' ρ')⟩

/-- Everything the certificate claims. -/
theorem claim : Cert.Claim :=
  ⟨Cert.Kernel.Gen.facts, Cert.Pointwise.Gen.facts, Cert.KernelLog.Gen.facts, Cert.KernelLogIdeal.Gen.facts,
    Cert.ReferenceIdeal.Gen.facts, frame_kernel, frame_pointwise, frame_log, frame_logIdeal, frame_reference, bitexact,
    preserves, algebraic⟩

end Cert.Proof

end
